-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_in_table [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ids_in_table [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel)
    ∧ quiescent_KernelIdeal (hKernelIdeal := hKernelIdeal)
    ∧ quiescent_KernelIdeal_pre_ids_in_table (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal_pre_ids_in_table (hKernelIdeal := hKernelIdeal) (hReferenceIdeal := hReferenceIdeal) (hPre_ids_in_table := hPre_ids_in_table)
-- ==== Pre_ids_in_table.lean ====
abbrev S4096x16x8x8 : Shape := ⟨4, ![4096, 16, 8, 8]⟩
abbrev S4096 : Shape := ⟨1, ![4096]⟩
abbrev S60000x16x8x8 : Shape := ⟨4, ![60000, 16, 8, 8]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S4096x16x8x8 .f32) (main_arg1 : IVec S4096 32) (main_arg2 : FVec F S60000x16x8x8 .f32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 60000#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Kernel.lean ====
abbrev S4096x16x8x8 : Shape := ⟨4, ![4096, 16, 8, 8]⟩
abbrev S4096 : Shape := ⟨1, ![4096]⟩
abbrev S60000x16x8x8 : Shape := ⟨4, ![60000, 16, 8, 8]⟩
abbrev S4096x1024 : Shape := ⟨2, ![4096, 1024]⟩
abbrev S16x2x128 : Shape := ⟨3, ![16, 2, 128]⟩
abbrev S1x2x128 : Shape := ⟨3, ![1, 2, 128]⟩
abbrev S256x1024 : Shape := ⟨2, ![256, 1024]⟩
abbrev S256x1 : Shape := ⟨2, ![256, 1]⟩
abbrev S2x128 : Shape := ⟨2, ![2, 128]⟩
abbrev S6x128 : Shape := ⟨2, ![6, 128]⟩
abbrev S8x128 : Shape := ⟨2, ![8, 128]⟩
abbrev S128x8 : Shape := ⟨2, ![128, 8]⟩
abbrev S128x1 : Shape := ⟨2, ![128, 1]⟩
abbrev S16x1 : Shape := ⟨2, ![16, 1]⟩
abbrev S16x896 : Shape := ⟨2, ![16, 896]⟩
abbrev S16x128 : Shape := ⟨2, ![16, 128]⟩

abbrev nBuf : Space → Nat
  | .hbm => 7
  | .vmem => 8
  | .smem => 0
  | _ => 0

abbrev bufTy : (tb : Table) → Fin (tcTables nBuf tb) → BufTy
  | .hbm, ⟨0, _⟩ => ⟨S4096x16x8x8, .f32⟩
  | .hbm, ⟨1, _⟩ => ⟨S4096, .i32⟩
  | .hbm, ⟨2, _⟩ => ⟨S60000x16x8x8, .f32⟩
  | .hbm, ⟨3, _⟩ => ⟨S4096x1024, .f32⟩
  | .hbm, ⟨4, _⟩ => ⟨S16x2x128, .i32⟩
  | .hbm, ⟨5, _⟩ => ⟨S4096x1024, .f32⟩
  | .hbm, ⟨6, _⟩ => ⟨S4096x16x8x8, .f32⟩
  | .local _ .vmem, ⟨0, _⟩ => ⟨S1x2x128, .i32⟩
  | .local _ .vmem, ⟨1, _⟩ => ⟨S1x2x128, .i32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .i32⟩
  | .local _ .vmem, ⟨7, _⟩ => ⟨S256x1, .i32⟩
  | _, _ => ⟨S4096x16x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_off1 (c0_i32_40 : BitVec 32) : Fin 2 → Nat :=
  let c16_i32_41 : BitVec 32 := 16#32
  let v188 : BitVec 32 := Scalar.muli c0_i32_40 c16_i32_41
  let v189 : Index := Scalar.indexCast v188
  let c0_42 : Index := 0#32
  ![v189.toNat, 0]
def k0_off2 (c0_i32_40 : BitVec 32) : Fin 2 → Nat :=
  let c16_i32_41 : BitVec 32 := 16#32
  let v188 : BitVec 32 := Scalar.muli c0_i32_40 c16_i32_41
  let v386 : Index := Scalar.indexCast v188
  let c0_92 : Index := 0#32
  ![v386.toNat, 0]
def k0_off3 (c0_i32_40 : BitVec 32) : Fin 2 → Nat :=
  let c16_i32_41 : BitVec 32 := 16#32
  let v188 : BitVec 32 := Scalar.muli c0_i32_40 c16_i32_41
  let v391 : Index := Scalar.indexCast v188
  let c128_94 : Index := 128#32
  ![v391.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x16x8x8 : Shape := ⟨4, ![4096, 16, 8, 8]⟩
abbrev S4096 : Shape := ⟨1, ![4096]⟩
abbrev S60000x16x8x8 : Shape := ⟨4, ![60000, 16, 8, 8]⟩
abbrev S_ : Shape := ⟨0, ![]⟩
abbrev S1 : Shape := ⟨1, ![1]⟩
abbrev S2 : Shape := ⟨1, ![2]⟩
abbrev S4096x1 : Shape := ⟨2, ![4096, 1]⟩
abbrev S4096x2 : Shape := ⟨2, ![4096, 2]⟩
abbrev S1x1x1 : Shape := ⟨3, ![1, 1, 1]⟩
abbrev S13x8x8 : Shape := ⟨3, ![13, 8, 8]⟩
abbrev S1x13x8x8 : Shape := ⟨4, ![1, 13, 8, 8]⟩
abbrev S4096x1x1x1 : Shape := ⟨4, ![4096, 1, 1, 1]⟩
abbrev S4096x13x8x8 : Shape := ⟨4, ![4096, 13, 8, 8]⟩
abbrev S1x1x1x1 : Shape := ⟨4, ![1, 1, 1, 1]⟩
abbrev S3x8x8 : Shape := ⟨3, ![3, 8, 8]⟩
abbrev S4096x3x8x8 : Shape := ⟨4, ![4096, 3, 8, 8]⟩

abbrev nBuf : Space → Nat
  | .hbm => 558
  | .vmem => 0
  | .smem => 0
  | _ => 0

abbrev hbmTy0_0 (i : Nat) : BufTy := match i % 128 with
  | 0 => ⟨S4096x16x8x8, .f32⟩
  | 1 => ⟨S4096, .i32⟩
  | 2 => ⟨S60000x16x8x8, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S4096, .i32⟩
  | 14 => ⟨S_, .i32⟩
  | 15 => ⟨S4096, .i32⟩
  | 16 => ⟨S4096, .i32⟩
  | 17 => ⟨S4096x1, .i32⟩
  | 18 => ⟨S_, .i32⟩
  | 19 => ⟨S4096, .i32⟩
  | 20 => ⟨S4096, .i32⟩
  | 21 => ⟨S4096x1, .i32⟩
  | 22 => ⟨S4096x2, .i32⟩
  | 23 => ⟨S1, .i32⟩
  | 24 => ⟨S_, .i32⟩
  | 25 => ⟨S1, .i32⟩
  | 26 => ⟨S_, .i32⟩
  | 27 => ⟨S4096x1, .i32⟩
  | 28 => ⟨S4096x1, .i32⟩
  | 29 => ⟨S_, .i32⟩
  | 30 => ⟨S_, .i32⟩
  | 31 => ⟨S_, .i32⟩
  | 32 => ⟨S4096x1, .i32⟩
  | 33 => ⟨S4096x1, .i32⟩
  | 34 => ⟨S4096x1, .i32⟩
  | 35 => ⟨S4096x1, .i32⟩
  | 36 => ⟨S4096x1, .i32⟩
  | 37 => ⟨S_, .i32⟩
  | 38 => ⟨S4096x1, .i32⟩
  | 39 => ⟨S4096x1, .i32⟩
  | 40 => ⟨S_, .i32⟩
  | 41 => ⟨S4096x1, .i32⟩
  | 42 => ⟨S4096x1, .i32⟩
  | 43 => ⟨S4096x1, .i32⟩
  | 44 => ⟨S4096x1, .i32⟩
  | 45 => ⟨S4096x1, .i32⟩
  | 46 => ⟨S_, .i32⟩
  | 47 => ⟨S4096x1, .i32⟩
  | 48 => ⟨S4096x1, .i32⟩
  | 49 => ⟨S_, .i32⟩
  | 50 => ⟨S4096x1, .i32⟩
  | 51 => ⟨S4096x1, .i32⟩
  | 52 => ⟨S4096x1, .i32⟩
  | 53 => ⟨S4096x1, .i32⟩
  | 54 => ⟨S4096x1, .i32⟩
  | 55 => ⟨S_, .i32⟩
  | 56 => ⟨S4096x1, .i32⟩
  | 57 => ⟨S4096x1, .i32⟩
  | 58 => ⟨S_, .i32⟩
  | 59 => ⟨S4096x1, .i32⟩
  | 60 => ⟨S4096x1, .i32⟩
  | 61 => ⟨S4096x1, .i32⟩
  | 62 => ⟨S4096x1, .i32⟩
  | 63 => ⟨S4096x1, .i32⟩
  | 64 => ⟨S_, .i32⟩
  | 65 => ⟨S4096x1, .i32⟩
  | 66 => ⟨S4096x1, .i32⟩
  | 67 => ⟨S_, .i32⟩
  | 68 => ⟨S4096x1, .i32⟩
  | 69 => ⟨S4096x1, .i32⟩
  | 70 => ⟨S4096x1, .i32⟩
  | 71 => ⟨S4096x1, .i32⟩
  | 72 => ⟨S4096x1, .i32⟩
  | 73 => ⟨S4096x1, .i32⟩
  | 74 => ⟨S4096x1, .i32⟩
  | 75 => ⟨S4096x1, .i32⟩
  | 76 => ⟨S_, .i32⟩
  | 77 => ⟨S4096x1, .i32⟩
  | 78 => ⟨S4096x1, .i32⟩
  | 79 => ⟨S4096x1, .i32⟩
  | 80 => ⟨S_, .i32⟩
  | 81 => ⟨S4096x1, .i32⟩
  | 82 => ⟨S4096x1, .i32⟩
  | 83 => ⟨S_, .i32⟩
  | 84 => ⟨S4096x1, .i32⟩
  | 85 => ⟨S4096x1, .i32⟩
  | 86 => ⟨S4096x1, .i32⟩
  | 87 => ⟨S4096x1, .i32⟩
  | 88 => ⟨S4096x1, .i32⟩
  | 89 => ⟨S_, .i32⟩
  | 90 => ⟨S4096x1, .i32⟩
  | 91 => ⟨S4096x1, .i32⟩
  | 92 => ⟨S_, .i32⟩
  | 93 => ⟨S4096x1, .i32⟩
  | 94 => ⟨S4096x1, .i32⟩
  | 95 => ⟨S4096x1, .i32⟩
  | 96 => ⟨S4096x1, .i32⟩
  | 97 => ⟨S4096x1, .i32⟩
  | 98 => ⟨S_, .i32⟩
  | 99 => ⟨S4096x1, .i32⟩
  | 100 => ⟨S4096x1, .i32⟩
  | 101 => ⟨S_, .i32⟩
  | 102 => ⟨S4096x1, .i32⟩
  | 103 => ⟨S4096x1, .i32⟩
  | 104 => ⟨S4096x1, .i32⟩
  | 105 => ⟨S4096x1, .i32⟩
  | 106 => ⟨S4096x1, .i32⟩
  | 107 => ⟨S_, .i32⟩
  | 108 => ⟨S4096x1, .i32⟩
  | 109 => ⟨S4096x1, .i32⟩
  | 110 => ⟨S_, .i32⟩
  | 111 => ⟨S4096x1, .i32⟩
  | 112 => ⟨S4096x1, .i32⟩
  | 113 => ⟨S4096x1, .i32⟩
  | 114 => ⟨S4096x1, .i32⟩
  | 115 => ⟨S4096x1, .i32⟩
  | 116 => ⟨S4096x1, .i32⟩
  | 117 => ⟨S4096x1, .i32⟩
  | 118 => ⟨S4096x1, .i32⟩
  | 119 => ⟨S_, .i32⟩
  | 120 => ⟨S4096x1, .i32⟩
  | 121 => ⟨S4096x1, .i32⟩
  | 122 => ⟨S4096x1, .i32⟩
  | 123 => ⟨S_, .i32⟩
  | 124 => ⟨S4096x1, .i32⟩
  | 125 => ⟨S4096x1, .i32⟩
  | 126 => ⟨S_, .i32⟩
  | 127 => ⟨S4096x1, .i32⟩
  | _ => ⟨S4096x16x8x8, .f32⟩

abbrev hbmTy0_1 (i : Nat) : BufTy := match i % 128 with
  | 0 => ⟨S4096x1, .i32⟩
  | 1 => ⟨S4096x1, .i32⟩
  | 2 => ⟨S4096x1, .i32⟩
  | 3 => ⟨S4096x1, .i32⟩
  | 4 => ⟨S_, .i32⟩
  | 5 => ⟨S4096x1, .i32⟩
  | 6 => ⟨S4096x1, .i32⟩
  | 7 => ⟨S_, .i32⟩
  | 8 => ⟨S4096x1, .i32⟩
  | 9 => ⟨S4096x1, .i32⟩
  | 10 => ⟨S4096x1, .i32⟩
  | 11 => ⟨S4096x1, .i32⟩
  | 12 => ⟨S4096x1, .i32⟩
  | 13 => ⟨S_, .i32⟩
  | 14 => ⟨S4096x1, .i32⟩
  | 15 => ⟨S4096x1, .i32⟩
  | 16 => ⟨S_, .i32⟩
  | 17 => ⟨S4096x1, .i32⟩
  | 18 => ⟨S4096x1, .i32⟩
  | 19 => ⟨S4096x1, .i32⟩
  | 20 => ⟨S4096x1, .i32⟩
  | 21 => ⟨S4096x1, .i32⟩
  | 22 => ⟨S_, .i32⟩
  | 23 => ⟨S4096x1, .i32⟩
  | 24 => ⟨S4096x1, .i32⟩
  | 25 => ⟨S_, .i32⟩
  | 26 => ⟨S4096x1, .i32⟩
  | 27 => ⟨S4096x1, .i32⟩
  | 28 => ⟨S4096x1, .i32⟩
  | 29 => ⟨S4096x1, .i32⟩
  | 30 => ⟨S4096x1, .i32⟩
  | 31 => ⟨S4096x1, .i32⟩
  | 32 => ⟨S4096x1, .i32⟩
  | 33 => ⟨S4096x1, .i32⟩
  | 34 => ⟨S_, .i32⟩
  | 35 => ⟨S4096x1, .i32⟩
  | 36 => ⟨S4096x1, .i32⟩
  | 37 => ⟨S4096x1, .i32⟩
  | 38 => ⟨S_, .i32⟩
  | 39 => ⟨S4096x1, .i32⟩
  | 40 => ⟨S4096x1, .i32⟩
  | 41 => ⟨S_, .i32⟩
  | 42 => ⟨S4096x1, .i32⟩
  | 43 => ⟨S4096x1, .i32⟩
  | 44 => ⟨S4096x1, .i32⟩
  | 45 => ⟨S4096x1, .i32⟩
  | 46 => ⟨S4096x1, .i32⟩
  | 47 => ⟨S_, .i32⟩
  | 48 => ⟨S4096x1, .i32⟩
  | 49 => ⟨S4096x1, .i32⟩
  | 50 => ⟨S_, .i32⟩
  | 51 => ⟨S4096x1, .i32⟩
  | 52 => ⟨S4096x1, .i32⟩
  | 53 => ⟨S4096x1, .i32⟩
  | 54 => ⟨S4096x1, .i32⟩
  | 55 => ⟨S4096x1, .i32⟩
  | 56 => ⟨S_, .i32⟩
  | 57 => ⟨S4096x1, .i32⟩
  | 58 => ⟨S4096x1, .i32⟩
  | 59 => ⟨S_, .i32⟩
  | 60 => ⟨S4096x1, .i32⟩
  | 61 => ⟨S4096x1, .i32⟩
  | 62 => ⟨S4096x1, .i32⟩
  | 63 => ⟨S4096x1, .i32⟩
  | 64 => ⟨S4096x1, .i32⟩
  | 65 => ⟨S_, .i32⟩
  | 66 => ⟨S4096x1, .i32⟩
  | 67 => ⟨S4096x1, .i32⟩
  | 68 => ⟨S_, .i32⟩
  | 69 => ⟨S4096x1, .i32⟩
  | 70 => ⟨S4096x1, .i32⟩
  | 71 => ⟨S4096x1, .i32⟩
  | 72 => ⟨S4096x1, .i32⟩
  | 73 => ⟨S4096x1, .i32⟩
  | 74 => ⟨S4096x1, .i32⟩
  | 75 => ⟨S4096x1, .i32⟩
  | 76 => ⟨S4096x1, .i32⟩
  | 77 => ⟨S_, .i32⟩
  | 78 => ⟨S4096x1, .i32⟩
  | 79 => ⟨S4096x1, .i32⟩
  | 80 => ⟨S4096x1, .i32⟩
  | 81 => ⟨S_, .i32⟩
  | 82 => ⟨S4096x1, .i32⟩
  | 83 => ⟨S4096x1, .i32⟩
  | 84 => ⟨S_, .i32⟩
  | 85 => ⟨S4096x1, .i32⟩
  | 86 => ⟨S4096x1, .i32⟩
  | 87 => ⟨S4096x1, .i32⟩
  | 88 => ⟨S4096x1, .i32⟩
  | 89 => ⟨S4096x1, .i32⟩
  | 90 => ⟨S_, .i32⟩
  | 91 => ⟨S4096x1, .i32⟩
  | 92 => ⟨S4096x1, .i32⟩
  | 93 => ⟨S_, .i32⟩
  | 94 => ⟨S4096x1, .i32⟩
  | 95 => ⟨S4096x1, .i32⟩
  | 96 => ⟨S4096x1, .i32⟩
  | 97 => ⟨S4096x1, .i32⟩
  | 98 => ⟨S4096x1, .i32⟩
  | 99 => ⟨S_, .i32⟩
  | 100 => ⟨S4096x1, .i32⟩
  | 101 => ⟨S4096x1, .i32⟩
  | 102 => ⟨S_, .i32⟩
  | 103 => ⟨S4096x1, .i32⟩
  | 104 => ⟨S4096x1, .i32⟩
  | 105 => ⟨S4096x1, .i32⟩
  | 106 => ⟨S4096x1, .i32⟩
  | 107 => ⟨S4096x1, .i32⟩
  | 108 => ⟨S_, .i32⟩
  | 109 => ⟨S4096x1, .i32⟩
  | 110 => ⟨S4096x1, .i32⟩
  | 111 => ⟨S_, .i32⟩
  | 112 => ⟨S4096x1, .i32⟩
  | 113 => ⟨S4096x1, .i32⟩
  | 114 => ⟨S4096x1, .i32⟩
  | 115 => ⟨S4096x1, .i32⟩
  | 116 => ⟨S4096x1, .i32⟩
  | 117 => ⟨S4096x1, .i32⟩
  | 118 => ⟨S4096x1, .i32⟩
  | 119 => ⟨S4096x1, .i32⟩
  | 120 => ⟨S_, .i32⟩
  | 121 => ⟨S4096x1, .i32⟩
  | 122 => ⟨S4096x1, .i32⟩
  | 123 => ⟨S4096x2, .i32⟩
  | 124 => ⟨S_, .f32⟩
  | 125 => ⟨S_, .f32⟩
  | 126 => ⟨S_, .f32⟩
  | 127 => ⟨S_, .f32⟩
  | _ => ⟨S4096x16x8x8, .f32⟩

abbrev hbmTy0_2 (i : Nat) : BufTy := match i % 128 with
  | 0 => ⟨S1x1x1, .f32⟩
  | 1 => ⟨S1x1x1, .f32⟩
  | 2 => ⟨S4096x1, .i32⟩
  | 3 => ⟨S4096, .i32⟩
  | 4 => ⟨S4096x1, .i32⟩
  | 5 => ⟨S4096, .i32⟩
  | 6 => ⟨S13x8x8, .i64⟩
  | 7 => ⟨S13x8x8, .i64⟩
  | 8 => ⟨S13x8x8, .i64⟩
  | 9 => ⟨S_, .i64⟩
  | 10 => ⟨S13x8x8, .i64⟩
  | 11 => ⟨S13x8x8, .i64⟩
  | 12 => ⟨S_, .i64⟩
  | 13 => ⟨S13x8x8, .i64⟩
  | 14 => ⟨S13x8x8, .i64⟩
  | 15 => ⟨S_, .i64⟩
  | 16 => ⟨S13x8x8, .i64⟩
  | 17 => ⟨S13x8x8, .i64⟩
  | 18 => ⟨S13x8x8, .i64⟩
  | 19 => ⟨S13x8x8, .i64⟩
  | 20 => ⟨S_, .i64⟩
  | 21 => ⟨S13x8x8, .i64⟩
  | 22 => ⟨S13x8x8, .i64⟩
  | 23 => ⟨S13x8x8, .i32⟩
  | 24 => ⟨S13x8x8, .i32⟩
  | 25 => ⟨S1x13x8x8, .i32⟩
  | 26 => ⟨S1x13x8x8, .i32⟩
  | 27 => ⟨S4096x1x1x1, .i32⟩
  | 28 => ⟨S4096x1x1x1, .i32⟩
  | 29 => ⟨S4096x1x1x1, .i32⟩
  | 30 => ⟨S_, .i32⟩
  | 31 => ⟨S4096x1x1x1, .i32⟩
  | 32 => ⟨S4096x1x1x1, .i32⟩
  | 33 => ⟨S4096x13x8x8, .i32⟩
  | 34 => ⟨S4096x13x8x8, .i32⟩
  | 35 => ⟨S4096x13x8x8, .i32⟩
  | 36 => ⟨S4096x13x8x8, .i32⟩
  | 37 => ⟨S4096x13x8x8, .i32⟩
  | 38 => ⟨S4096x13x8x8, .i32⟩
  | 39 => ⟨S4096x13x8x8, .i32⟩
  | 40 => ⟨S_, .i32⟩
  | 41 => ⟨S4096x13x8x8, .i32⟩
  | 42 => ⟨S4096x13x8x8, .i32⟩
  | 43 => ⟨S_, .i32⟩
  | 44 => ⟨S4096x13x8x8, .i32⟩
  | 45 => ⟨S4096x13x8x8, .i32⟩
  | 46 => ⟨S4096x13x8x8, .i32⟩
  | 47 => ⟨S4096x13x8x8, .i32⟩
  | 48 => ⟨S4096x13x8x8, .i32⟩
  | 49 => ⟨S_, .i32⟩
  | 50 => ⟨S4096x13x8x8, .i32⟩
  | 51 => ⟨S4096x13x8x8, .i32⟩
  | 52 => ⟨S_, .i32⟩
  | 53 => ⟨S4096x13x8x8, .i32⟩
  | 54 => ⟨S4096x13x8x8, .i32⟩
  | 55 => ⟨S4096x13x8x8, .i32⟩
  | 56 => ⟨S4096x13x8x8, .i32⟩
  | 57 => ⟨S4096x13x8x8, .i32⟩
  | 58 => ⟨S_, .i32⟩
  | 59 => ⟨S4096x13x8x8, .i32⟩
  | 60 => ⟨S4096x13x8x8, .i32⟩
  | 61 => ⟨S_, .i32⟩
  | 62 => ⟨S4096x13x8x8, .i32⟩
  | 63 => ⟨S4096x13x8x8, .i32⟩
  | 64 => ⟨S4096x13x8x8, .i32⟩
  | 65 => ⟨S4096x13x8x8, .i32⟩
  | 66 => ⟨S4096x13x8x8, .i32⟩
  | 67 => ⟨S_, .i32⟩
  | 68 => ⟨S4096x13x8x8, .i32⟩
  | 69 => ⟨S4096x13x8x8, .i32⟩
  | 70 => ⟨S_, .i32⟩
  | 71 => ⟨S4096x13x8x8, .i32⟩
  | 72 => ⟨S4096x13x8x8, .i32⟩
  | 73 => ⟨S4096x13x8x8, .i32⟩
  | 74 => ⟨S4096x13x8x8, .i32⟩
  | 75 => ⟨S4096x13x8x8, .i32⟩
  | 76 => ⟨S4096x13x8x8, .i32⟩
  | 77 => ⟨S4096x13x8x8, .i32⟩
  | 78 => ⟨S4096x13x8x8, .i32⟩
  | 79 => ⟨S_, .i32⟩
  | 80 => ⟨S4096x13x8x8, .i32⟩
  | 81 => ⟨S4096x13x8x8, .i32⟩
  | 82 => ⟨S4096x13x8x8, .i32⟩
  | 83 => ⟨S_, .i32⟩
  | 84 => ⟨S4096x13x8x8, .i32⟩
  | 85 => ⟨S4096x13x8x8, .i32⟩
  | 86 => ⟨S_, .i32⟩
  | 87 => ⟨S4096x13x8x8, .i32⟩
  | 88 => ⟨S4096x13x8x8, .i32⟩
  | 89 => ⟨S4096x13x8x8, .i32⟩
  | 90 => ⟨S4096x13x8x8, .i32⟩
  | 91 => ⟨S4096x13x8x8, .i32⟩
  | 92 => ⟨S_, .i32⟩
  | 93 => ⟨S4096x13x8x8, .i32⟩
  | 94 => ⟨S4096x13x8x8, .i32⟩
  | 95 => ⟨S_, .i32⟩
  | 96 => ⟨S4096x13x8x8, .i32⟩
  | 97 => ⟨S4096x13x8x8, .i32⟩
  | 98 => ⟨S4096x13x8x8, .i32⟩
  | 99 => ⟨S4096x13x8x8, .i32⟩
  | 100 => ⟨S4096x13x8x8, .i32⟩
  | 101 => ⟨S_, .i32⟩
  | 102 => ⟨S4096x13x8x8, .i32⟩
  | 103 => ⟨S4096x13x8x8, .i32⟩
  | 104 => ⟨S_, .i32⟩
  | 105 => ⟨S4096x13x8x8, .i32⟩
  | 106 => ⟨S4096x13x8x8, .i32⟩
  | 107 => ⟨S4096x13x8x8, .i32⟩
  | 108 => ⟨S4096x13x8x8, .i32⟩
  | 109 => ⟨S4096x13x8x8, .i32⟩
  | 110 => ⟨S_, .i32⟩
  | 111 => ⟨S4096x13x8x8, .i32⟩
  | 112 => ⟨S4096x13x8x8, .i32⟩
  | 113 => ⟨S_, .i32⟩
  | 114 => ⟨S4096x13x8x8, .i32⟩
  | 115 => ⟨S4096x13x8x8, .i32⟩
  | 116 => ⟨S4096x13x8x8, .i32⟩
  | 117 => ⟨S4096x13x8x8, .i32⟩
  | 118 => ⟨S4096x13x8x8, .i32⟩
  | 119 => ⟨S4096x13x8x8, .i32⟩
  | 120 => ⟨S4096x13x8x8, .i32⟩
  | 121 => ⟨S4096x13x8x8, .i32⟩
  | 122 => ⟨S_, .i32⟩
  | 123 => ⟨S4096x13x8x8, .i32⟩
  | 124 => ⟨S4096x13x8x8, .i32⟩
  | 125 => ⟨S4096x13x8x8, .i32⟩
  | 126 => ⟨S_, .i32⟩
  | 127 => ⟨S4096x13x8x8, .i32⟩
  | _ => ⟨S4096x16x8x8, .f32⟩

abbrev hbmTy0_3 (i : Nat) : BufTy := match i % 128 with
  | 0 => ⟨S4096x13x8x8, .i32⟩
  | 1 => ⟨S_, .i32⟩
  | 2 => ⟨S4096x13x8x8, .i32⟩
  | 3 => ⟨S4096x13x8x8, .i32⟩
  | 4 => ⟨S4096x13x8x8, .i32⟩
  | 5 => ⟨S4096x13x8x8, .i32⟩
  | 6 => ⟨S4096x13x8x8, .i32⟩
  | 7 => ⟨S_, .i32⟩
  | 8 => ⟨S4096x13x8x8, .i32⟩
  | 9 => ⟨S4096x13x8x8, .i32⟩
  | 10 => ⟨S_, .i32⟩
  | 11 => ⟨S4096x13x8x8, .i32⟩
  | 12 => ⟨S4096x13x8x8, .i32⟩
  | 13 => ⟨S4096x13x8x8, .i32⟩
  | 14 => ⟨S4096x13x8x8, .i32⟩
  | 15 => ⟨S4096x13x8x8, .i32⟩
  | 16 => ⟨S_, .i32⟩
  | 17 => ⟨S4096x13x8x8, .i32⟩
  | 18 => ⟨S4096x13x8x8, .i32⟩
  | 19 => ⟨S_, .i32⟩
  | 20 => ⟨S4096x13x8x8, .i32⟩
  | 21 => ⟨S4096x13x8x8, .i32⟩
  | 22 => ⟨S4096x13x8x8, .i32⟩
  | 23 => ⟨S4096x13x8x8, .i32⟩
  | 24 => ⟨S4096x13x8x8, .i32⟩
  | 25 => ⟨S_, .i32⟩
  | 26 => ⟨S4096x13x8x8, .i32⟩
  | 27 => ⟨S4096x13x8x8, .i32⟩
  | 28 => ⟨S_, .i32⟩
  | 29 => ⟨S4096x13x8x8, .i32⟩
  | 30 => ⟨S4096x13x8x8, .i32⟩
  | 31 => ⟨S4096x13x8x8, .i32⟩
  | 32 => ⟨S4096x13x8x8, .i32⟩
  | 33 => ⟨S4096x13x8x8, .i32⟩
  | 34 => ⟨S4096x13x8x8, .i32⟩
  | 35 => ⟨S4096x13x8x8, .i32⟩
  | 36 => ⟨S4096x13x8x8, .i32⟩
  | 37 => ⟨S_, .i32⟩
  | 38 => ⟨S4096x13x8x8, .i32⟩
  | 39 => ⟨S4096x13x8x8, .i32⟩
  | 40 => ⟨S4096x13x8x8, .i32⟩
  | 41 => ⟨S_, .i32⟩
  | 42 => ⟨S4096x13x8x8, .i32⟩
  | 43 => ⟨S4096x13x8x8, .i32⟩
  | 44 => ⟨S_, .i32⟩
  | 45 => ⟨S4096x13x8x8, .i32⟩
  | 46 => ⟨S4096x13x8x8, .i32⟩
  | 47 => ⟨S4096x13x8x8, .i32⟩
  | 48 => ⟨S4096x13x8x8, .i32⟩
  | 49 => ⟨S4096x13x8x8, .i32⟩
  | 50 => ⟨S_, .i32⟩
  | 51 => ⟨S4096x13x8x8, .i32⟩
  | 52 => ⟨S4096x13x8x8, .i32⟩
  | 53 => ⟨S_, .i32⟩
  | 54 => ⟨S4096x13x8x8, .i32⟩
  | 55 => ⟨S4096x13x8x8, .i32⟩
  | 56 => ⟨S4096x13x8x8, .i32⟩
  | 57 => ⟨S4096x13x8x8, .i32⟩
  | 58 => ⟨S4096x13x8x8, .i32⟩
  | 59 => ⟨S_, .i32⟩
  | 60 => ⟨S4096x13x8x8, .i32⟩
  | 61 => ⟨S4096x13x8x8, .i32⟩
  | 62 => ⟨S_, .i32⟩
  | 63 => ⟨S4096x13x8x8, .i32⟩
  | 64 => ⟨S4096x13x8x8, .i32⟩
  | 65 => ⟨S4096x13x8x8, .i32⟩
  | 66 => ⟨S4096x13x8x8, .i32⟩
  | 67 => ⟨S4096x13x8x8, .i32⟩
  | 68 => ⟨S_, .i32⟩
  | 69 => ⟨S4096x13x8x8, .i32⟩
  | 70 => ⟨S4096x13x8x8, .i32⟩
  | 71 => ⟨S_, .i32⟩
  | 72 => ⟨S4096x13x8x8, .i32⟩
  | 73 => ⟨S4096x13x8x8, .i32⟩
  | 74 => ⟨S4096x13x8x8, .i32⟩
  | 75 => ⟨S4096x13x8x8, .i32⟩
  | 76 => ⟨S4096x13x8x8, .i32⟩
  | 77 => ⟨S4096x13x8x8, .i32⟩
  | 78 => ⟨S4096x13x8x8, .i32⟩
  | 79 => ⟨S4096x13x8x8, .i32⟩
  | 80 => ⟨S_, .i32⟩
  | 81 => ⟨S4096x13x8x8, .i32⟩
  | 82 => ⟨S4096x13x8x8, .i32⟩
  | 83 => ⟨S4096x13x8x8, .i32⟩
  | 84 => ⟨S_, .i32⟩
  | 85 => ⟨S4096x13x8x8, .i32⟩
  | 86 => ⟨S4096x13x8x8, .i32⟩
  | 87 => ⟨S_, .i32⟩
  | 88 => ⟨S4096x13x8x8, .i32⟩
  | 89 => ⟨S4096x13x8x8, .i32⟩
  | 90 => ⟨S4096x13x8x8, .i32⟩
  | 91 => ⟨S4096x13x8x8, .i32⟩
  | 92 => ⟨S4096x13x8x8, .i32⟩
  | 93 => ⟨S_, .i32⟩
  | 94 => ⟨S4096x13x8x8, .i32⟩
  | 95 => ⟨S4096x13x8x8, .i32⟩
  | 96 => ⟨S_, .i32⟩
  | 97 => ⟨S4096x13x8x8, .i32⟩
  | 98 => ⟨S4096x13x8x8, .i32⟩
  | 99 => ⟨S4096x13x8x8, .i32⟩
  | 100 => ⟨S4096x13x8x8, .i32⟩
  | 101 => ⟨S4096x13x8x8, .i32⟩
  | 102 => ⟨S_, .i32⟩
  | 103 => ⟨S4096x13x8x8, .i32⟩
  | 104 => ⟨S4096x13x8x8, .i32⟩
  | 105 => ⟨S_, .i32⟩
  | 106 => ⟨S4096x13x8x8, .i32⟩
  | 107 => ⟨S4096x13x8x8, .i32⟩
  | 108 => ⟨S4096x13x8x8, .i32⟩
  | 109 => ⟨S4096x13x8x8, .i32⟩
  | 110 => ⟨S4096x13x8x8, .i32⟩
  | 111 => ⟨S_, .i32⟩
  | 112 => ⟨S4096x13x8x8, .i32⟩
  | 113 => ⟨S4096x13x8x8, .i32⟩
  | 114 => ⟨S_, .i32⟩
  | 115 => ⟨S4096x13x8x8, .i32⟩
  | 116 => ⟨S4096x13x8x8, .i32⟩
  | 117 => ⟨S4096x13x8x8, .i32⟩
  | 118 => ⟨S4096x13x8x8, .i32⟩
  | 119 => ⟨S4096x13x8x8, .i32⟩
  | 120 => ⟨S4096x13x8x8, .i32⟩
  | 121 => ⟨S4096x13x8x8, .i32⟩
  | 122 => ⟨S4096x13x8x8, .i32⟩
  | 123 => ⟨S_, .i32⟩
  | 124 => ⟨S4096x13x8x8, .i32⟩
  | 125 => ⟨S4096x13x8x8, .i32⟩
  | 126 => ⟨S4096x13x8x8, .i32⟩
  | 127 => ⟨S_, .i32⟩
  | _ => ⟨S4096x16x8x8, .f32⟩

abbrev hbmTy0_4 (i : Nat) : BufTy := match i % 128 with
  | 0 => ⟨S4096x13x8x8, .i32⟩
  | 1 => ⟨S4096x13x8x8, .i32⟩
  | 2 => ⟨S_, .i32⟩
  | 3 => ⟨S4096x13x8x8, .i32⟩
  | 4 => ⟨S4096x13x8x8, .i32⟩
  | 5 => ⟨S4096x13x8x8, .f32⟩
  | 6 => ⟨S_, .f32⟩
  | 7 => ⟨S4096x13x8x8, .f32⟩
  | 8 => ⟨S4096x13x8x8, .f32⟩
  | 9 => ⟨S1x1x1, .f32⟩
  | 10 => ⟨S1x1x1x1, .f32⟩
  | 11 => ⟨S4096x13x8x8, .f32⟩
  | 12 => ⟨S4096x13x8x8, .f32⟩
  | 13 => ⟨S1x1x1x1, .f32⟩
  | 14 => ⟨S4096x13x8x8, .f32⟩
  | 15 => ⟨S4096x13x8x8, .f32⟩
  | 16 => ⟨S1x1x1x1, .f32⟩
  | 17 => ⟨S4096x13x8x8, .f32⟩
  | 18 => ⟨S4096x13x8x8, .f32⟩
  | 19 => ⟨S_, .f32⟩
  | 20 => ⟨S4096x13x8x8, .f32⟩
  | 21 => ⟨S4096x13x8x8, .i1⟩
  | 22 => ⟨S4096x13x8x8, .f32⟩
  | 23 => ⟨S_, .f32⟩
  | 24 => ⟨S3x8x8, .f32⟩
  | 25 => ⟨S4096x3x8x8, .f32⟩
  | 26 => ⟨S4096x16x8x8, .f32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S60000x16x8x8, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096x16x8x8, .f32⟩
  | 45 => ⟨S4096x16x8x8, .f32⟩
  | _ => ⟨S4096x16x8x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x16x8x8, .f32⟩

abbrev bufTy : (tb : Table) → Fin (tcTables nBuf tb) → BufTy
  | .hbm, ⟨i, _⟩ => hbmTy i
  | _, _ => ⟨S4096x16x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c_0 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_call0_v0 : Ref sig .tc := ⟨.hbm, 29, rfl⟩
abbrev main_call0_call0_c : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_c_0 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c_1 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_call0_c_2 : Ref sig .tc := ⟨.hbm, 46, rfl⟩
abbrev main_call0_call0_v14 : Ref sig .tc := ⟨.hbm, 47, rfl⟩
abbrev main_call0_call0_v15 : Ref sig .tc := ⟨.hbm, 48, rfl⟩
abbrev main_call0_call0_c_3 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_c_4 : Ref sig .tc := ⟨.hbm, 55, rfl⟩
abbrev main_call0_call0_v21 : Ref sig .tc := ⟨.hbm, 56, rfl⟩
abbrev main_call0_call0_v22 : Ref sig .tc := ⟨.hbm, 57, rfl⟩
abbrev main_call0_call0_c_5 : Ref sig .tc := ⟨.hbm, 58, rfl⟩
abbrev main_call0_call0_v23 : Ref sig .tc := ⟨.hbm, 59, rfl⟩
abbrev main_call0_call0_v24 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_v27 : Ref sig .tc := ⟨.hbm, 63, rfl⟩
abbrev main_call0_call0_c_6 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_c_7 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_v32 : Ref sig .tc := ⟨.hbm, 70, rfl⟩
abbrev main_call0_call0_v33 : Ref sig .tc := ⟨.hbm, 71, rfl⟩
abbrev main_call0_call0_v34 : Ref sig .tc := ⟨.hbm, 72, rfl⟩
abbrev main_call0_call0_v35 : Ref sig .tc := ⟨.hbm, 73, rfl⟩
abbrev main_call0_call0_v36 : Ref sig .tc := ⟨.hbm, 74, rfl⟩
abbrev main_call0_call0_v37 : Ref sig .tc := ⟨.hbm, 75, rfl⟩
abbrev main_call0_call0_c_8 : Ref sig .tc := ⟨.hbm, 76, rfl⟩
abbrev main_call0_call0_v38 : Ref sig .tc := ⟨.hbm, 77, rfl⟩
abbrev main_call0_call0_v39 : Ref sig .tc := ⟨.hbm, 78, rfl⟩
abbrev main_call0_call0_v40 : Ref sig .tc := ⟨.hbm, 79, rfl⟩
abbrev main_call0_call0_c_9 : Ref sig .tc := ⟨.hbm, 80, rfl⟩
abbrev main_call0_call0_v41 : Ref sig .tc := ⟨.hbm, 81, rfl⟩
abbrev main_call0_call0_v42 : Ref sig .tc := ⟨.hbm, 82, rfl⟩
abbrev main_call0_call0_c_10 : Ref sig .tc := ⟨.hbm, 83, rfl⟩
abbrev main_call0_call0_v43 : Ref sig .tc := ⟨.hbm, 84, rfl⟩
abbrev main_call0_call0_v44 : Ref sig .tc := ⟨.hbm, 85, rfl⟩
abbrev main_call0_call0_v45 : Ref sig .tc := ⟨.hbm, 86, rfl⟩
abbrev main_call0_call0_v46 : Ref sig .tc := ⟨.hbm, 87, rfl⟩
abbrev main_call0_call0_v47 : Ref sig .tc := ⟨.hbm, 88, rfl⟩
abbrev main_call0_call0_c_11 : Ref sig .tc := ⟨.hbm, 89, rfl⟩
abbrev main_call0_call0_v48 : Ref sig .tc := ⟨.hbm, 90, rfl⟩
abbrev main_call0_call0_v49 : Ref sig .tc := ⟨.hbm, 91, rfl⟩
abbrev main_call0_call0_c_12 : Ref sig .tc := ⟨.hbm, 92, rfl⟩
abbrev main_call0_call0_v50 : Ref sig .tc := ⟨.hbm, 93, rfl⟩
abbrev main_call0_call0_v51 : Ref sig .tc := ⟨.hbm, 94, rfl⟩
abbrev main_call0_call0_v52 : Ref sig .tc := ⟨.hbm, 95, rfl⟩
abbrev main_call0_call0_v53 : Ref sig .tc := ⟨.hbm, 96, rfl⟩
abbrev main_call0_call0_v54 : Ref sig .tc := ⟨.hbm, 97, rfl⟩
abbrev main_call0_call0_c_13 : Ref sig .tc := ⟨.hbm, 98, rfl⟩
abbrev main_call0_call0_v55 : Ref sig .tc := ⟨.hbm, 99, rfl⟩
abbrev main_call0_call0_v56 : Ref sig .tc := ⟨.hbm, 100, rfl⟩
abbrev main_call0_call0_c_14 : Ref sig .tc := ⟨.hbm, 101, rfl⟩
abbrev main_call0_call0_v57 : Ref sig .tc := ⟨.hbm, 102, rfl⟩
abbrev main_call0_call0_v58 : Ref sig .tc := ⟨.hbm, 103, rfl⟩
abbrev main_call0_call0_v59 : Ref sig .tc := ⟨.hbm, 104, rfl⟩
abbrev main_call0_call0_v60 : Ref sig .tc := ⟨.hbm, 105, rfl⟩
abbrev main_call0_call0_v61 : Ref sig .tc := ⟨.hbm, 106, rfl⟩
abbrev main_call0_call0_c_15 : Ref sig .tc := ⟨.hbm, 107, rfl⟩
abbrev main_call0_call0_v62 : Ref sig .tc := ⟨.hbm, 108, rfl⟩
abbrev main_call0_call0_v63 : Ref sig .tc := ⟨.hbm, 109, rfl⟩
abbrev main_call0_call0_c_16 : Ref sig .tc := ⟨.hbm, 110, rfl⟩
abbrev main_call0_call0_v64 : Ref sig .tc := ⟨.hbm, 111, rfl⟩
abbrev main_call0_call0_v65 : Ref sig .tc := ⟨.hbm, 112, rfl⟩
abbrev main_call0_call0_v66 : Ref sig .tc := ⟨.hbm, 113, rfl⟩
abbrev main_call0_call0_v67 : Ref sig .tc := ⟨.hbm, 114, rfl⟩
abbrev main_call0_call0_v68 : Ref sig .tc := ⟨.hbm, 115, rfl⟩
abbrev main_call0_call0_v69 : Ref sig .tc := ⟨.hbm, 116, rfl⟩
abbrev main_call0_call0_v70 : Ref sig .tc := ⟨.hbm, 117, rfl⟩
abbrev main_call0_call0_v71 : Ref sig .tc := ⟨.hbm, 118, rfl⟩
abbrev main_call0_call0_c_17 : Ref sig .tc := ⟨.hbm, 119, rfl⟩
abbrev main_call0_call0_v72 : Ref sig .tc := ⟨.hbm, 120, rfl⟩
abbrev main_call0_call0_v73 : Ref sig .tc := ⟨.hbm, 121, rfl⟩
abbrev main_call0_call0_v74 : Ref sig .tc := ⟨.hbm, 122, rfl⟩
abbrev main_call0_call0_c_18 : Ref sig .tc := ⟨.hbm, 123, rfl⟩
abbrev main_call0_call0_v75 : Ref sig .tc := ⟨.hbm, 124, rfl⟩
abbrev main_call0_call0_v76 : Ref sig .tc := ⟨.hbm, 125, rfl⟩
abbrev main_call0_call0_c_19 : Ref sig .tc := ⟨.hbm, 126, rfl⟩
abbrev main_call0_call0_v77 : Ref sig .tc := ⟨.hbm, 127, rfl⟩
abbrev main_call0_call0_v78 : Ref sig .tc := ⟨.hbm, 128, rfl⟩
abbrev main_call0_call0_v79 : Ref sig .tc := ⟨.hbm, 129, rfl⟩
abbrev main_call0_call0_v80 : Ref sig .tc := ⟨.hbm, 130, rfl⟩
abbrev main_call0_call0_v81 : Ref sig .tc := ⟨.hbm, 131, rfl⟩
abbrev main_call0_call0_c_20 : Ref sig .tc := ⟨.hbm, 132, rfl⟩
abbrev main_call0_call0_v82 : Ref sig .tc := ⟨.hbm, 133, rfl⟩
abbrev main_call0_call0_v83 : Ref sig .tc := ⟨.hbm, 134, rfl⟩
abbrev main_call0_call0_c_21 : Ref sig .tc := ⟨.hbm, 135, rfl⟩
abbrev main_call0_call0_v84 : Ref sig .tc := ⟨.hbm, 136, rfl⟩
abbrev main_call0_call0_v85 : Ref sig .tc := ⟨.hbm, 137, rfl⟩
abbrev main_call0_call0_v86 : Ref sig .tc := ⟨.hbm, 138, rfl⟩
abbrev main_call0_call0_v87 : Ref sig .tc := ⟨.hbm, 139, rfl⟩
abbrev main_call0_call0_v88 : Ref sig .tc := ⟨.hbm, 140, rfl⟩
abbrev main_call0_call0_c_22 : Ref sig .tc := ⟨.hbm, 141, rfl⟩
abbrev main_call0_call0_v89 : Ref sig .tc := ⟨.hbm, 142, rfl⟩
abbrev main_call0_call0_v90 : Ref sig .tc := ⟨.hbm, 143, rfl⟩
abbrev main_call0_call0_c_23 : Ref sig .tc := ⟨.hbm, 144, rfl⟩
abbrev main_call0_call0_v91 : Ref sig .tc := ⟨.hbm, 145, rfl⟩
abbrev main_call0_call0_v92 : Ref sig .tc := ⟨.hbm, 146, rfl⟩
abbrev main_call0_call0_v93 : Ref sig .tc := ⟨.hbm, 147, rfl⟩
abbrev main_call0_call0_v94 : Ref sig .tc := ⟨.hbm, 148, rfl⟩
abbrev main_call0_call0_v95 : Ref sig .tc := ⟨.hbm, 149, rfl⟩
abbrev main_call0_call0_c_24 : Ref sig .tc := ⟨.hbm, 150, rfl⟩
abbrev main_call0_call0_v96 : Ref sig .tc := ⟨.hbm, 151, rfl⟩
abbrev main_call0_call0_v97 : Ref sig .tc := ⟨.hbm, 152, rfl⟩
abbrev main_call0_call0_c_25 : Ref sig .tc := ⟨.hbm, 153, rfl⟩
abbrev main_call0_call0_v98 : Ref sig .tc := ⟨.hbm, 154, rfl⟩
abbrev main_call0_call0_v99 : Ref sig .tc := ⟨.hbm, 155, rfl⟩
abbrev main_call0_call0_v100 : Ref sig .tc := ⟨.hbm, 156, rfl⟩
abbrev main_call0_call0_v101 : Ref sig .tc := ⟨.hbm, 157, rfl⟩
abbrev main_call0_call0_v102 : Ref sig .tc := ⟨.hbm, 158, rfl⟩
abbrev main_call0_call0_v103 : Ref sig .tc := ⟨.hbm, 159, rfl⟩
abbrev main_call0_call0_v104 : Ref sig .tc := ⟨.hbm, 160, rfl⟩
abbrev main_call0_call0_v105 : Ref sig .tc := ⟨.hbm, 161, rfl⟩
abbrev main_call0_call0_c_26 : Ref sig .tc := ⟨.hbm, 162, rfl⟩
abbrev main_call0_call0_v106 : Ref sig .tc := ⟨.hbm, 163, rfl⟩
abbrev main_call0_call0_v107 : Ref sig .tc := ⟨.hbm, 164, rfl⟩
abbrev main_call0_call0_v108 : Ref sig .tc := ⟨.hbm, 165, rfl⟩
abbrev main_call0_call0_c_27 : Ref sig .tc := ⟨.hbm, 166, rfl⟩
abbrev main_call0_call0_v109 : Ref sig .tc := ⟨.hbm, 167, rfl⟩
abbrev main_call0_call0_v110 : Ref sig .tc := ⟨.hbm, 168, rfl⟩
abbrev main_call0_call0_c_28 : Ref sig .tc := ⟨.hbm, 169, rfl⟩
abbrev main_call0_call0_v111 : Ref sig .tc := ⟨.hbm, 170, rfl⟩
abbrev main_call0_call0_v112 : Ref sig .tc := ⟨.hbm, 171, rfl⟩
abbrev main_call0_call0_v113 : Ref sig .tc := ⟨.hbm, 172, rfl⟩
abbrev main_call0_call0_v114 : Ref sig .tc := ⟨.hbm, 173, rfl⟩
abbrev main_call0_call0_v115 : Ref sig .tc := ⟨.hbm, 174, rfl⟩
abbrev main_call0_call0_c_29 : Ref sig .tc := ⟨.hbm, 175, rfl⟩
abbrev main_call0_call0_v116 : Ref sig .tc := ⟨.hbm, 176, rfl⟩
abbrev main_call0_call0_v117 : Ref sig .tc := ⟨.hbm, 177, rfl⟩
abbrev main_call0_call0_c_30 : Ref sig .tc := ⟨.hbm, 178, rfl⟩
abbrev main_call0_call0_v118 : Ref sig .tc := ⟨.hbm, 179, rfl⟩
abbrev main_call0_call0_v119 : Ref sig .tc := ⟨.hbm, 180, rfl⟩
abbrev main_call0_call0_v120 : Ref sig .tc := ⟨.hbm, 181, rfl⟩
abbrev main_call0_call0_v121 : Ref sig .tc := ⟨.hbm, 182, rfl⟩
abbrev main_call0_call0_v122 : Ref sig .tc := ⟨.hbm, 183, rfl⟩
abbrev main_call0_call0_c_31 : Ref sig .tc := ⟨.hbm, 184, rfl⟩
abbrev main_call0_call0_v123 : Ref sig .tc := ⟨.hbm, 185, rfl⟩
abbrev main_call0_call0_v124 : Ref sig .tc := ⟨.hbm, 186, rfl⟩
abbrev main_call0_call0_c_32 : Ref sig .tc := ⟨.hbm, 187, rfl⟩
abbrev main_call0_call0_v125 : Ref sig .tc := ⟨.hbm, 188, rfl⟩
abbrev main_call0_call0_v126 : Ref sig .tc := ⟨.hbm, 189, rfl⟩
abbrev main_call0_call0_v127 : Ref sig .tc := ⟨.hbm, 190, rfl⟩
abbrev main_call0_call0_v128 : Ref sig .tc := ⟨.hbm, 191, rfl⟩
abbrev main_call0_call0_v129 : Ref sig .tc := ⟨.hbm, 192, rfl⟩
abbrev main_call0_call0_c_33 : Ref sig .tc := ⟨.hbm, 193, rfl⟩
abbrev main_call0_call0_v130 : Ref sig .tc := ⟨.hbm, 194, rfl⟩
abbrev main_call0_call0_v131 : Ref sig .tc := ⟨.hbm, 195, rfl⟩
abbrev main_call0_call0_c_34 : Ref sig .tc := ⟨.hbm, 196, rfl⟩
abbrev main_call0_call0_v132 : Ref sig .tc := ⟨.hbm, 197, rfl⟩
abbrev main_call0_call0_v133 : Ref sig .tc := ⟨.hbm, 198, rfl⟩
abbrev main_call0_call0_v134 : Ref sig .tc := ⟨.hbm, 199, rfl⟩
abbrev main_call0_call0_v135 : Ref sig .tc := ⟨.hbm, 200, rfl⟩
abbrev main_call0_call0_v136 : Ref sig .tc := ⟨.hbm, 201, rfl⟩
abbrev main_call0_call0_v137 : Ref sig .tc := ⟨.hbm, 202, rfl⟩
abbrev main_call0_call0_v138 : Ref sig .tc := ⟨.hbm, 203, rfl⟩
abbrev main_call0_call0_v139 : Ref sig .tc := ⟨.hbm, 204, rfl⟩
abbrev main_call0_call0_c_35 : Ref sig .tc := ⟨.hbm, 205, rfl⟩
abbrev main_call0_call0_v140 : Ref sig .tc := ⟨.hbm, 206, rfl⟩
abbrev main_call0_call0_v141 : Ref sig .tc := ⟨.hbm, 207, rfl⟩
abbrev main_call0_call0_v142 : Ref sig .tc := ⟨.hbm, 208, rfl⟩
abbrev main_call0_call0_c_36 : Ref sig .tc := ⟨.hbm, 209, rfl⟩
abbrev main_call0_call0_v143 : Ref sig .tc := ⟨.hbm, 210, rfl⟩
abbrev main_call0_call0_v144 : Ref sig .tc := ⟨.hbm, 211, rfl⟩
abbrev main_call0_call0_c_37 : Ref sig .tc := ⟨.hbm, 212, rfl⟩
abbrev main_call0_call0_v145 : Ref sig .tc := ⟨.hbm, 213, rfl⟩
abbrev main_call0_call0_v146 : Ref sig .tc := ⟨.hbm, 214, rfl⟩
abbrev main_call0_call0_v147 : Ref sig .tc := ⟨.hbm, 215, rfl⟩
abbrev main_call0_call0_v148 : Ref sig .tc := ⟨.hbm, 216, rfl⟩
abbrev main_call0_call0_v149 : Ref sig .tc := ⟨.hbm, 217, rfl⟩
abbrev main_call0_call0_c_38 : Ref sig .tc := ⟨.hbm, 218, rfl⟩
abbrev main_call0_call0_v150 : Ref sig .tc := ⟨.hbm, 219, rfl⟩
abbrev main_call0_call0_v151 : Ref sig .tc := ⟨.hbm, 220, rfl⟩
abbrev main_call0_call0_c_39 : Ref sig .tc := ⟨.hbm, 221, rfl⟩
abbrev main_call0_call0_v152 : Ref sig .tc := ⟨.hbm, 222, rfl⟩
abbrev main_call0_call0_v153 : Ref sig .tc := ⟨.hbm, 223, rfl⟩
abbrev main_call0_call0_v154 : Ref sig .tc := ⟨.hbm, 224, rfl⟩
abbrev main_call0_call0_v155 : Ref sig .tc := ⟨.hbm, 225, rfl⟩
abbrev main_call0_call0_v156 : Ref sig .tc := ⟨.hbm, 226, rfl⟩
abbrev main_call0_call0_c_40 : Ref sig .tc := ⟨.hbm, 227, rfl⟩
abbrev main_call0_call0_v157 : Ref sig .tc := ⟨.hbm, 228, rfl⟩
abbrev main_call0_call0_v158 : Ref sig .tc := ⟨.hbm, 229, rfl⟩
abbrev main_call0_call0_c_41 : Ref sig .tc := ⟨.hbm, 230, rfl⟩
abbrev main_call0_call0_v159 : Ref sig .tc := ⟨.hbm, 231, rfl⟩
abbrev main_call0_call0_v160 : Ref sig .tc := ⟨.hbm, 232, rfl⟩
abbrev main_call0_call0_v161 : Ref sig .tc := ⟨.hbm, 233, rfl⟩
abbrev main_call0_call0_v162 : Ref sig .tc := ⟨.hbm, 234, rfl⟩
abbrev main_call0_call0_v163 : Ref sig .tc := ⟨.hbm, 235, rfl⟩
abbrev main_call0_call0_c_42 : Ref sig .tc := ⟨.hbm, 236, rfl⟩
abbrev main_call0_call0_v164 : Ref sig .tc := ⟨.hbm, 237, rfl⟩
abbrev main_call0_call0_v165 : Ref sig .tc := ⟨.hbm, 238, rfl⟩
abbrev main_call0_call0_c_43 : Ref sig .tc := ⟨.hbm, 239, rfl⟩
abbrev main_call0_call0_v166 : Ref sig .tc := ⟨.hbm, 240, rfl⟩
abbrev main_call0_call0_v167 : Ref sig .tc := ⟨.hbm, 241, rfl⟩
abbrev main_call0_call0_v168 : Ref sig .tc := ⟨.hbm, 242, rfl⟩
abbrev main_call0_call0_v169 : Ref sig .tc := ⟨.hbm, 243, rfl⟩
abbrev main_call0_call0_v170 : Ref sig .tc := ⟨.hbm, 244, rfl⟩
abbrev main_call0_v13_0 : Ref sig .tc := ⟨.hbm, 245, rfl⟩
abbrev main_call0_call0_v172 : Ref sig .tc := ⟨.hbm, 246, rfl⟩
abbrev main_call0_call0_v173 : Ref sig .tc := ⟨.hbm, 247, rfl⟩
abbrev main_call0_call0_c_44 : Ref sig .tc := ⟨.hbm, 248, rfl⟩
abbrev main_call0_call0_v174 : Ref sig .tc := ⟨.hbm, 249, rfl⟩
abbrev main_call0_v13_1 : Ref sig .tc := ⟨.hbm, 250, rfl⟩
abbrev main_v8 : Ref sig .tc := ⟨.hbm, 251, rfl⟩
abbrev main_cst : Ref sig .tc := ⟨.hbm, 252, rfl⟩
abbrev main_cst_2 : Ref sig .tc := ⟨.hbm, 253, rfl⟩
abbrev main_call1_v0 : Ref sig .tc := ⟨.hbm, 254, rfl⟩
abbrev main_call1_v1 : Ref sig .tc := ⟨.hbm, 255, rfl⟩
abbrev main_call1_v2 : Ref sig .tc := ⟨.hbm, 256, rfl⟩
abbrev main_call1_v3 : Ref sig .tc := ⟨.hbm, 257, rfl⟩
abbrev main_call1_v4 : Ref sig .tc := ⟨.hbm, 258, rfl⟩
abbrev main_call1_v5 : Ref sig .tc := ⟨.hbm, 259, rfl⟩
abbrev main_call1_v6 : Ref sig .tc := ⟨.hbm, 260, rfl⟩
abbrev main_call1_v7 : Ref sig .tc := ⟨.hbm, 261, rfl⟩
abbrev main_call1_v8 : Ref sig .tc := ⟨.hbm, 262, rfl⟩
abbrev main_call1_v9 : Ref sig .tc := ⟨.hbm, 263, rfl⟩
abbrev main_call1_v10 : Ref sig .tc := ⟨.hbm, 264, rfl⟩
abbrev main_call1_c : Ref sig .tc := ⟨.hbm, 265, rfl⟩
abbrev main_call1_v11 : Ref sig .tc := ⟨.hbm, 266, rfl⟩
abbrev main_call1_v12 : Ref sig .tc := ⟨.hbm, 267, rfl⟩
abbrev main_call1_c_0 : Ref sig .tc := ⟨.hbm, 268, rfl⟩
abbrev main_call1_v13 : Ref sig .tc := ⟨.hbm, 269, rfl⟩
abbrev main_call1_v14 : Ref sig .tc := ⟨.hbm, 270, rfl⟩
abbrev main_call1_c_1 : Ref sig .tc := ⟨.hbm, 271, rfl⟩
abbrev main_call1_v15 : Ref sig .tc := ⟨.hbm, 272, rfl⟩
abbrev main_call1_v16 : Ref sig .tc := ⟨.hbm, 273, rfl⟩
abbrev main_call1_v17 : Ref sig .tc := ⟨.hbm, 274, rfl⟩
abbrev main_call1_v18 : Ref sig .tc := ⟨.hbm, 275, rfl⟩
abbrev main_call1_c_2 : Ref sig .tc := ⟨.hbm, 276, rfl⟩
abbrev main_call1_v19 : Ref sig .tc := ⟨.hbm, 277, rfl⟩
abbrev main_call1_v20 : Ref sig .tc := ⟨.hbm, 278, rfl⟩
abbrev main_call1_v21 : Ref sig .tc := ⟨.hbm, 279, rfl⟩
abbrev main_call1_v22 : Ref sig .tc := ⟨.hbm, 280, rfl⟩
abbrev main_call1_v23 : Ref sig .tc := ⟨.hbm, 281, rfl⟩
abbrev main_call1_v24 : Ref sig .tc := ⟨.hbm, 282, rfl⟩
abbrev main_call1_v25 : Ref sig .tc := ⟨.hbm, 283, rfl⟩
abbrev main_call1_v26 : Ref sig .tc := ⟨.hbm, 284, rfl⟩
abbrev main_call1_call0_v0 : Ref sig .tc := ⟨.hbm, 285, rfl⟩
abbrev main_call1_call0_c : Ref sig .tc := ⟨.hbm, 286, rfl⟩
abbrev main_call1_call0_v1 : Ref sig .tc := ⟨.hbm, 287, rfl⟩
abbrev main_call1_call0_v2 : Ref sig .tc := ⟨.hbm, 288, rfl⟩
abbrev main_call1_call0_v3 : Ref sig .tc := ⟨.hbm, 289, rfl⟩
abbrev main_call1_call0_v4 : Ref sig .tc := ⟨.hbm, 290, rfl⟩
abbrev main_call1_call0_v5 : Ref sig .tc := ⟨.hbm, 291, rfl⟩
abbrev main_call1_call0_v6 : Ref sig .tc := ⟨.hbm, 292, rfl⟩
abbrev main_call1_call0_v7 : Ref sig .tc := ⟨.hbm, 293, rfl⟩
abbrev main_call1_call0_v8 : Ref sig .tc := ⟨.hbm, 294, rfl⟩
abbrev main_call1_call0_v9 : Ref sig .tc := ⟨.hbm, 295, rfl⟩
abbrev main_call1_call0_c_0 : Ref sig .tc := ⟨.hbm, 296, rfl⟩
abbrev main_call1_call0_v10 : Ref sig .tc := ⟨.hbm, 297, rfl⟩
abbrev main_call1_call0_v11 : Ref sig .tc := ⟨.hbm, 298, rfl⟩
abbrev main_call1_call0_c_1 : Ref sig .tc := ⟨.hbm, 299, rfl⟩
abbrev main_call1_call0_v12 : Ref sig .tc := ⟨.hbm, 300, rfl⟩
abbrev main_call1_call0_v13 : Ref sig .tc := ⟨.hbm, 301, rfl⟩
abbrev main_call1_call0_v14 : Ref sig .tc := ⟨.hbm, 302, rfl⟩
abbrev main_call1_call0_v15 : Ref sig .tc := ⟨.hbm, 303, rfl⟩
abbrev main_call1_call0_v16 : Ref sig .tc := ⟨.hbm, 304, rfl⟩
abbrev main_call1_call0_c_2 : Ref sig .tc := ⟨.hbm, 305, rfl⟩
abbrev main_call1_call0_v17 : Ref sig .tc := ⟨.hbm, 306, rfl⟩
abbrev main_call1_call0_v18 : Ref sig .tc := ⟨.hbm, 307, rfl⟩
abbrev main_call1_call0_c_3 : Ref sig .tc := ⟨.hbm, 308, rfl⟩
abbrev main_call1_call0_v19 : Ref sig .tc := ⟨.hbm, 309, rfl⟩
abbrev main_call1_call0_v20 : Ref sig .tc := ⟨.hbm, 310, rfl⟩
abbrev main_call1_call0_v21 : Ref sig .tc := ⟨.hbm, 311, rfl⟩
abbrev main_call1_call0_v22 : Ref sig .tc := ⟨.hbm, 312, rfl⟩
abbrev main_call1_call0_v23 : Ref sig .tc := ⟨.hbm, 313, rfl⟩
abbrev main_call1_call0_c_4 : Ref sig .tc := ⟨.hbm, 314, rfl⟩
abbrev main_call1_call0_v24 : Ref sig .tc := ⟨.hbm, 315, rfl⟩
abbrev main_call1_call0_v25 : Ref sig .tc := ⟨.hbm, 316, rfl⟩
abbrev main_call1_call0_c_5 : Ref sig .tc := ⟨.hbm, 317, rfl⟩
abbrev main_call1_call0_v26 : Ref sig .tc := ⟨.hbm, 318, rfl⟩
abbrev main_call1_call0_v27 : Ref sig .tc := ⟨.hbm, 319, rfl⟩
abbrev main_call1_call0_v28 : Ref sig .tc := ⟨.hbm, 320, rfl⟩
abbrev main_call1_call0_v29 : Ref sig .tc := ⟨.hbm, 321, rfl⟩
abbrev main_call1_call0_v30 : Ref sig .tc := ⟨.hbm, 322, rfl⟩
abbrev main_call1_call0_c_6 : Ref sig .tc := ⟨.hbm, 323, rfl⟩
abbrev main_call1_call0_v31 : Ref sig .tc := ⟨.hbm, 324, rfl⟩
abbrev main_call1_call0_v32 : Ref sig .tc := ⟨.hbm, 325, rfl⟩
abbrev main_call1_call0_c_7 : Ref sig .tc := ⟨.hbm, 326, rfl⟩
abbrev main_call1_call0_v33 : Ref sig .tc := ⟨.hbm, 327, rfl⟩
abbrev main_call1_call0_v34 : Ref sig .tc := ⟨.hbm, 328, rfl⟩
abbrev main_call1_call0_v35 : Ref sig .tc := ⟨.hbm, 329, rfl⟩
abbrev main_call1_call0_v36 : Ref sig .tc := ⟨.hbm, 330, rfl⟩
abbrev main_call1_call0_v37 : Ref sig .tc := ⟨.hbm, 331, rfl⟩
abbrev main_call1_call0_v38 : Ref sig .tc := ⟨.hbm, 332, rfl⟩
abbrev main_call1_call0_v39 : Ref sig .tc := ⟨.hbm, 333, rfl⟩
abbrev main_call1_call0_v40 : Ref sig .tc := ⟨.hbm, 334, rfl⟩
abbrev main_call1_call0_c_8 : Ref sig .tc := ⟨.hbm, 335, rfl⟩
abbrev main_call1_call0_v41 : Ref sig .tc := ⟨.hbm, 336, rfl⟩
abbrev main_call1_call0_v42 : Ref sig .tc := ⟨.hbm, 337, rfl⟩
abbrev main_call1_call0_v43 : Ref sig .tc := ⟨.hbm, 338, rfl⟩
abbrev main_call1_call0_c_9 : Ref sig .tc := ⟨.hbm, 339, rfl⟩
abbrev main_call1_call0_v44 : Ref sig .tc := ⟨.hbm, 340, rfl⟩
abbrev main_call1_call0_v45 : Ref sig .tc := ⟨.hbm, 341, rfl⟩
abbrev main_call1_call0_c_10 : Ref sig .tc := ⟨.hbm, 342, rfl⟩
abbrev main_call1_call0_v46 : Ref sig .tc := ⟨.hbm, 343, rfl⟩
abbrev main_call1_call0_v47 : Ref sig .tc := ⟨.hbm, 344, rfl⟩
abbrev main_call1_call0_v48 : Ref sig .tc := ⟨.hbm, 345, rfl⟩
abbrev main_call1_call0_v49 : Ref sig .tc := ⟨.hbm, 346, rfl⟩
abbrev main_call1_call0_v50 : Ref sig .tc := ⟨.hbm, 347, rfl⟩
abbrev main_call1_call0_c_11 : Ref sig .tc := ⟨.hbm, 348, rfl⟩
abbrev main_call1_call0_v51 : Ref sig .tc := ⟨.hbm, 349, rfl⟩
abbrev main_call1_call0_v52 : Ref sig .tc := ⟨.hbm, 350, rfl⟩
abbrev main_call1_call0_c_12 : Ref sig .tc := ⟨.hbm, 351, rfl⟩
abbrev main_call1_call0_v53 : Ref sig .tc := ⟨.hbm, 352, rfl⟩
abbrev main_call1_call0_v54 : Ref sig .tc := ⟨.hbm, 353, rfl⟩
abbrev main_call1_call0_v55 : Ref sig .tc := ⟨.hbm, 354, rfl⟩
abbrev main_call1_call0_v56 : Ref sig .tc := ⟨.hbm, 355, rfl⟩
abbrev main_call1_call0_v57 : Ref sig .tc := ⟨.hbm, 356, rfl⟩
abbrev main_call1_call0_c_13 : Ref sig .tc := ⟨.hbm, 357, rfl⟩
abbrev main_call1_call0_v58 : Ref sig .tc := ⟨.hbm, 358, rfl⟩
abbrev main_call1_call0_v59 : Ref sig .tc := ⟨.hbm, 359, rfl⟩
abbrev main_call1_call0_c_14 : Ref sig .tc := ⟨.hbm, 360, rfl⟩
abbrev main_call1_call0_v60 : Ref sig .tc := ⟨.hbm, 361, rfl⟩
abbrev main_call1_call0_v61 : Ref sig .tc := ⟨.hbm, 362, rfl⟩
abbrev main_call1_call0_v62 : Ref sig .tc := ⟨.hbm, 363, rfl⟩
abbrev main_call1_call0_v63 : Ref sig .tc := ⟨.hbm, 364, rfl⟩
abbrev main_call1_call0_v64 : Ref sig .tc := ⟨.hbm, 365, rfl⟩
abbrev main_call1_call0_c_15 : Ref sig .tc := ⟨.hbm, 366, rfl⟩
abbrev main_call1_call0_v65 : Ref sig .tc := ⟨.hbm, 367, rfl⟩
abbrev main_call1_call0_v66 : Ref sig .tc := ⟨.hbm, 368, rfl⟩
abbrev main_call1_call0_c_16 : Ref sig .tc := ⟨.hbm, 369, rfl⟩
abbrev main_call1_call0_v67 : Ref sig .tc := ⟨.hbm, 370, rfl⟩
abbrev main_call1_call0_v68 : Ref sig .tc := ⟨.hbm, 371, rfl⟩
abbrev main_call1_call0_v69 : Ref sig .tc := ⟨.hbm, 372, rfl⟩
abbrev main_call1_call0_v70 : Ref sig .tc := ⟨.hbm, 373, rfl⟩
abbrev main_call1_call0_v71 : Ref sig .tc := ⟨.hbm, 374, rfl⟩
abbrev main_call1_call0_v72 : Ref sig .tc := ⟨.hbm, 375, rfl⟩
abbrev main_call1_call0_v73 : Ref sig .tc := ⟨.hbm, 376, rfl⟩
abbrev main_call1_call0_v74 : Ref sig .tc := ⟨.hbm, 377, rfl⟩
abbrev main_call1_call0_c_17 : Ref sig .tc := ⟨.hbm, 378, rfl⟩
abbrev main_call1_call0_v75 : Ref sig .tc := ⟨.hbm, 379, rfl⟩
abbrev main_call1_call0_v76 : Ref sig .tc := ⟨.hbm, 380, rfl⟩
abbrev main_call1_call0_v77 : Ref sig .tc := ⟨.hbm, 381, rfl⟩
abbrev main_call1_call0_c_18 : Ref sig .tc := ⟨.hbm, 382, rfl⟩
abbrev main_call1_call0_v78 : Ref sig .tc := ⟨.hbm, 383, rfl⟩
abbrev main_call1_call0_v79 : Ref sig .tc := ⟨.hbm, 384, rfl⟩
abbrev main_call1_call0_c_19 : Ref sig .tc := ⟨.hbm, 385, rfl⟩
abbrev main_call1_call0_v80 : Ref sig .tc := ⟨.hbm, 386, rfl⟩
abbrev main_call1_call0_v81 : Ref sig .tc := ⟨.hbm, 387, rfl⟩
abbrev main_call1_call0_v82 : Ref sig .tc := ⟨.hbm, 388, rfl⟩
abbrev main_call1_call0_v83 : Ref sig .tc := ⟨.hbm, 389, rfl⟩
abbrev main_call1_call0_v84 : Ref sig .tc := ⟨.hbm, 390, rfl⟩
abbrev main_call1_call0_c_20 : Ref sig .tc := ⟨.hbm, 391, rfl⟩
abbrev main_call1_call0_v85 : Ref sig .tc := ⟨.hbm, 392, rfl⟩
abbrev main_call1_call0_v86 : Ref sig .tc := ⟨.hbm, 393, rfl⟩
abbrev main_call1_call0_c_21 : Ref sig .tc := ⟨.hbm, 394, rfl⟩
abbrev main_call1_call0_v87 : Ref sig .tc := ⟨.hbm, 395, rfl⟩
abbrev main_call1_call0_v88 : Ref sig .tc := ⟨.hbm, 396, rfl⟩
abbrev main_call1_call0_v89 : Ref sig .tc := ⟨.hbm, 397, rfl⟩
abbrev main_call1_call0_v90 : Ref sig .tc := ⟨.hbm, 398, rfl⟩
abbrev main_call1_call0_v91 : Ref sig .tc := ⟨.hbm, 399, rfl⟩
abbrev main_call1_call0_c_22 : Ref sig .tc := ⟨.hbm, 400, rfl⟩
abbrev main_call1_call0_v92 : Ref sig .tc := ⟨.hbm, 401, rfl⟩
abbrev main_call1_call0_v93 : Ref sig .tc := ⟨.hbm, 402, rfl⟩
abbrev main_call1_call0_c_23 : Ref sig .tc := ⟨.hbm, 403, rfl⟩
abbrev main_call1_call0_v94 : Ref sig .tc := ⟨.hbm, 404, rfl⟩
abbrev main_call1_call0_v95 : Ref sig .tc := ⟨.hbm, 405, rfl⟩
abbrev main_call1_call0_v96 : Ref sig .tc := ⟨.hbm, 406, rfl⟩
abbrev main_call1_call0_v97 : Ref sig .tc := ⟨.hbm, 407, rfl⟩
abbrev main_call1_call0_v98 : Ref sig .tc := ⟨.hbm, 408, rfl⟩
abbrev main_call1_call0_c_24 : Ref sig .tc := ⟨.hbm, 409, rfl⟩
abbrev main_call1_call0_v99 : Ref sig .tc := ⟨.hbm, 410, rfl⟩
abbrev main_call1_call0_v100 : Ref sig .tc := ⟨.hbm, 411, rfl⟩
abbrev main_call1_call0_c_25 : Ref sig .tc := ⟨.hbm, 412, rfl⟩
abbrev main_call1_call0_v101 : Ref sig .tc := ⟨.hbm, 413, rfl⟩
abbrev main_call1_call0_v102 : Ref sig .tc := ⟨.hbm, 414, rfl⟩
abbrev main_call1_call0_v103 : Ref sig .tc := ⟨.hbm, 415, rfl⟩
abbrev main_call1_call0_v104 : Ref sig .tc := ⟨.hbm, 416, rfl⟩
abbrev main_call1_call0_v105 : Ref sig .tc := ⟨.hbm, 417, rfl⟩
abbrev main_call1_call0_v106 : Ref sig .tc := ⟨.hbm, 418, rfl⟩
abbrev main_call1_call0_v107 : Ref sig .tc := ⟨.hbm, 419, rfl⟩
abbrev main_call1_call0_v108 : Ref sig .tc := ⟨.hbm, 420, rfl⟩
abbrev main_call1_call0_c_26 : Ref sig .tc := ⟨.hbm, 421, rfl⟩
abbrev main_call1_call0_v109 : Ref sig .tc := ⟨.hbm, 422, rfl⟩
abbrev main_call1_call0_v110 : Ref sig .tc := ⟨.hbm, 423, rfl⟩
abbrev main_call1_call0_v111 : Ref sig .tc := ⟨.hbm, 424, rfl⟩
abbrev main_call1_call0_c_27 : Ref sig .tc := ⟨.hbm, 425, rfl⟩
abbrev main_call1_call0_v112 : Ref sig .tc := ⟨.hbm, 426, rfl⟩
abbrev main_call1_call0_v113 : Ref sig .tc := ⟨.hbm, 427, rfl⟩
abbrev main_call1_call0_c_28 : Ref sig .tc := ⟨.hbm, 428, rfl⟩
abbrev main_call1_call0_v114 : Ref sig .tc := ⟨.hbm, 429, rfl⟩
abbrev main_call1_call0_v115 : Ref sig .tc := ⟨.hbm, 430, rfl⟩
abbrev main_call1_call0_v116 : Ref sig .tc := ⟨.hbm, 431, rfl⟩
abbrev main_call1_call0_v117 : Ref sig .tc := ⟨.hbm, 432, rfl⟩
abbrev main_call1_call0_v118 : Ref sig .tc := ⟨.hbm, 433, rfl⟩
abbrev main_call1_call0_c_29 : Ref sig .tc := ⟨.hbm, 434, rfl⟩
abbrev main_call1_call0_v119 : Ref sig .tc := ⟨.hbm, 435, rfl⟩
abbrev main_call1_call0_v120 : Ref sig .tc := ⟨.hbm, 436, rfl⟩
abbrev main_call1_call0_c_30 : Ref sig .tc := ⟨.hbm, 437, rfl⟩
abbrev main_call1_call0_v121 : Ref sig .tc := ⟨.hbm, 438, rfl⟩
abbrev main_call1_call0_v122 : Ref sig .tc := ⟨.hbm, 439, rfl⟩
abbrev main_call1_call0_v123 : Ref sig .tc := ⟨.hbm, 440, rfl⟩
abbrev main_call1_call0_v124 : Ref sig .tc := ⟨.hbm, 441, rfl⟩
abbrev main_call1_call0_v125 : Ref sig .tc := ⟨.hbm, 442, rfl⟩
abbrev main_call1_call0_c_31 : Ref sig .tc := ⟨.hbm, 443, rfl⟩
abbrev main_call1_call0_v126 : Ref sig .tc := ⟨.hbm, 444, rfl⟩
abbrev main_call1_call0_v127 : Ref sig .tc := ⟨.hbm, 445, rfl⟩
abbrev main_call1_call0_c_32 : Ref sig .tc := ⟨.hbm, 446, rfl⟩
abbrev main_call1_call0_v128 : Ref sig .tc := ⟨.hbm, 447, rfl⟩
abbrev main_call1_call0_v129 : Ref sig .tc := ⟨.hbm, 448, rfl⟩
abbrev main_call1_call0_v130 : Ref sig .tc := ⟨.hbm, 449, rfl⟩
abbrev main_call1_call0_v131 : Ref sig .tc := ⟨.hbm, 450, rfl⟩
abbrev main_call1_call0_v132 : Ref sig .tc := ⟨.hbm, 451, rfl⟩
abbrev main_call1_call0_c_33 : Ref sig .tc := ⟨.hbm, 452, rfl⟩
abbrev main_call1_call0_v133 : Ref sig .tc := ⟨.hbm, 453, rfl⟩
abbrev main_call1_call0_v134 : Ref sig .tc := ⟨.hbm, 454, rfl⟩
abbrev main_call1_call0_c_34 : Ref sig .tc := ⟨.hbm, 455, rfl⟩
abbrev main_call1_call0_v135 : Ref sig .tc := ⟨.hbm, 456, rfl⟩
abbrev main_call1_call0_v136 : Ref sig .tc := ⟨.hbm, 457, rfl⟩
abbrev main_call1_call0_v137 : Ref sig .tc := ⟨.hbm, 458, rfl⟩
abbrev main_call1_call0_v138 : Ref sig .tc := ⟨.hbm, 459, rfl⟩
abbrev main_call1_call0_v139 : Ref sig .tc := ⟨.hbm, 460, rfl⟩
abbrev main_call1_call0_v140 : Ref sig .tc := ⟨.hbm, 461, rfl⟩
abbrev main_call1_call0_v141 : Ref sig .tc := ⟨.hbm, 462, rfl⟩
abbrev main_call1_call0_v142 : Ref sig .tc := ⟨.hbm, 463, rfl⟩
abbrev main_call1_call0_c_35 : Ref sig .tc := ⟨.hbm, 464, rfl⟩
abbrev main_call1_call0_v143 : Ref sig .tc := ⟨.hbm, 465, rfl⟩
abbrev main_call1_call0_v144 : Ref sig .tc := ⟨.hbm, 466, rfl⟩
abbrev main_call1_call0_v145 : Ref sig .tc := ⟨.hbm, 467, rfl⟩
abbrev main_call1_call0_c_36 : Ref sig .tc := ⟨.hbm, 468, rfl⟩
abbrev main_call1_call0_v146 : Ref sig .tc := ⟨.hbm, 469, rfl⟩
abbrev main_call1_call0_v147 : Ref sig .tc := ⟨.hbm, 470, rfl⟩
abbrev main_call1_call0_c_37 : Ref sig .tc := ⟨.hbm, 471, rfl⟩
abbrev main_call1_call0_v148 : Ref sig .tc := ⟨.hbm, 472, rfl⟩
abbrev main_call1_call0_v149 : Ref sig .tc := ⟨.hbm, 473, rfl⟩
abbrev main_call1_call0_v150 : Ref sig .tc := ⟨.hbm, 474, rfl⟩
abbrev main_call1_call0_v151 : Ref sig .tc := ⟨.hbm, 475, rfl⟩
abbrev main_call1_call0_v152 : Ref sig .tc := ⟨.hbm, 476, rfl⟩
abbrev main_call1_call0_c_38 : Ref sig .tc := ⟨.hbm, 477, rfl⟩
abbrev main_call1_call0_v153 : Ref sig .tc := ⟨.hbm, 478, rfl⟩
abbrev main_call1_call0_v154 : Ref sig .tc := ⟨.hbm, 479, rfl⟩
abbrev main_call1_call0_c_39 : Ref sig .tc := ⟨.hbm, 480, rfl⟩
abbrev main_call1_call0_v155 : Ref sig .tc := ⟨.hbm, 481, rfl⟩
abbrev main_call1_call0_v156 : Ref sig .tc := ⟨.hbm, 482, rfl⟩
abbrev main_call1_call0_v157 : Ref sig .tc := ⟨.hbm, 483, rfl⟩
abbrev main_call1_call0_v158 : Ref sig .tc := ⟨.hbm, 484, rfl⟩
abbrev main_call1_call0_v159 : Ref sig .tc := ⟨.hbm, 485, rfl⟩
abbrev main_call1_call0_c_40 : Ref sig .tc := ⟨.hbm, 486, rfl⟩
abbrev main_call1_call0_v160 : Ref sig .tc := ⟨.hbm, 487, rfl⟩
abbrev main_call1_call0_v161 : Ref sig .tc := ⟨.hbm, 488, rfl⟩
abbrev main_call1_call0_c_41 : Ref sig .tc := ⟨.hbm, 489, rfl⟩
abbrev main_call1_call0_v162 : Ref sig .tc := ⟨.hbm, 490, rfl⟩
abbrev main_call1_call0_v163 : Ref sig .tc := ⟨.hbm, 491, rfl⟩
abbrev main_call1_call0_v164 : Ref sig .tc := ⟨.hbm, 492, rfl⟩
abbrev main_call1_call0_v165 : Ref sig .tc := ⟨.hbm, 493, rfl⟩
abbrev main_call1_call0_v166 : Ref sig .tc := ⟨.hbm, 494, rfl⟩
abbrev main_call1_call0_c_42 : Ref sig .tc := ⟨.hbm, 495, rfl⟩
abbrev main_call1_call0_v167 : Ref sig .tc := ⟨.hbm, 496, rfl⟩
abbrev main_call1_call0_v168 : Ref sig .tc := ⟨.hbm, 497, rfl⟩
abbrev main_call1_call0_c_43 : Ref sig .tc := ⟨.hbm, 498, rfl⟩
abbrev main_call1_call0_v169 : Ref sig .tc := ⟨.hbm, 499, rfl⟩
abbrev main_call1_call0_v170 : Ref sig .tc := ⟨.hbm, 500, rfl⟩
abbrev main_call1_call0_v171 : Ref sig .tc := ⟨.hbm, 501, rfl⟩
abbrev main_call1_call0_v172 : Ref sig .tc := ⟨.hbm, 502, rfl⟩
abbrev main_call1_call0_v173 : Ref sig .tc := ⟨.hbm, 503, rfl⟩
abbrev main_call1_v27_0 : Ref sig .tc := ⟨.hbm, 504, rfl⟩
abbrev main_call1_call0_v175 : Ref sig .tc := ⟨.hbm, 505, rfl⟩
abbrev main_call1_call0_v176 : Ref sig .tc := ⟨.hbm, 506, rfl⟩
abbrev main_call1_call0_c_44 : Ref sig .tc := ⟨.hbm, 507, rfl⟩
abbrev main_call1_call0_v177 : Ref sig .tc := ⟨.hbm, 508, rfl⟩
abbrev main_call1_v27_1 : Ref sig .tc := ⟨.hbm, 509, rfl⟩
abbrev main_call1_v28 : Ref sig .tc := ⟨.hbm, 510, rfl⟩
abbrev main_call1_c_3 : Ref sig .tc := ⟨.hbm, 511, rfl⟩
abbrev main_call1_v29 : Ref sig .tc := ⟨.hbm, 512, rfl⟩
abbrev main_call1_v30 : Ref sig .tc := ⟨.hbm, 513, rfl⟩
abbrev main_call1_c_4 : Ref sig .tc := ⟨.hbm, 514, rfl⟩
abbrev main_call1_v31 : Ref sig .tc := ⟨.hbm, 515, rfl⟩
abbrev main_call1_v32 : Ref sig .tc := ⟨.hbm, 516, rfl⟩
abbrev main_call1_v33 : Ref sig .tc := ⟨.hbm, 517, rfl⟩
abbrev main_call1_cst : Ref sig .tc := ⟨.hbm, 518, rfl⟩
abbrev main_call1_v34 : Ref sig .tc := ⟨.hbm, 519, rfl⟩
abbrev main_call1_v35 : Ref sig .tc := ⟨.hbm, 520, rfl⟩
abbrev main_call1_v36 : Ref sig .tc := ⟨.hbm, 521, rfl⟩
abbrev main_call1_v37 : Ref sig .tc := ⟨.hbm, 522, rfl⟩
abbrev main_call1_v38 : Ref sig .tc := ⟨.hbm, 523, rfl⟩
abbrev main_call1_v39 : Ref sig .tc := ⟨.hbm, 524, rfl⟩
abbrev main_call1_v40 : Ref sig .tc := ⟨.hbm, 525, rfl⟩
abbrev main_call1_v41 : Ref sig .tc := ⟨.hbm, 526, rfl⟩
abbrev main_call1_v42 : Ref sig .tc := ⟨.hbm, 527, rfl⟩
abbrev main_call1_v43 : Ref sig .tc := ⟨.hbm, 528, rfl⟩
abbrev main_call1_v44 : Ref sig .tc := ⟨.hbm, 529, rfl⟩
abbrev main_v9 : Ref sig .tc := ⟨.hbm, 530, rfl⟩
abbrev main_cst_3 : Ref sig .tc := ⟨.hbm, 531, rfl⟩
abbrev main_v10 : Ref sig .tc := ⟨.hbm, 532, rfl⟩
abbrev main_v11 : Ref sig .tc := ⟨.hbm, 533, rfl⟩
abbrev main_v12 : Ref sig .tc := ⟨.hbm, 534, rfl⟩
abbrev main_cst_4 : Ref sig .tc := ⟨.hbm, 535, rfl⟩
abbrev main_v13 : Ref sig .tc := ⟨.hbm, 536, rfl⟩
abbrev main_v14 : Ref sig .tc := ⟨.hbm, 537, rfl⟩
abbrev main_v15 : Ref sig .tc := ⟨.hbm, 538, rfl⟩
abbrev main_c_5 : Ref sig .tc := ⟨.hbm, 539, rfl⟩
abbrev main_v16 : Ref sig .tc := ⟨.hbm, 540, rfl⟩
abbrev main_v17 : Ref sig .tc := ⟨.hbm, 541, rfl⟩
abbrev main_c_6 : Ref sig .tc := ⟨.hbm, 542, rfl⟩
abbrev main_v18 : Ref sig .tc := ⟨.hbm, 543, rfl⟩
abbrev main_v19 : Ref sig .tc := ⟨.hbm, 544, rfl⟩
abbrev main_v20 : Ref sig .tc := ⟨.hbm, 545, rfl⟩
abbrev main_v21 : Ref sig .tc := ⟨.hbm, 546, rfl⟩
abbrev main_v22 : Ref sig .tc := ⟨.hbm, 547, rfl⟩
abbrev main_c_7 : Ref sig .tc := ⟨.hbm, 548, rfl⟩
abbrev main_v23 : Ref sig .tc := ⟨.hbm, 549, rfl⟩
abbrev main_v24 : Ref sig .tc := ⟨.hbm, 550, rfl⟩
abbrev main_c_8 : Ref sig .tc := ⟨.hbm, 551, rfl⟩
abbrev main_v25 : Ref sig .tc := ⟨.hbm, 552, rfl⟩
abbrev main_v26 : Ref sig .tc := ⟨.hbm, 553, rfl⟩
abbrev main_v27 : Ref sig .tc := ⟨.hbm, 554, rfl⟩
abbrev main_v28 : Ref sig .tc := ⟨.hbm, 555, rfl⟩
abbrev main_v29 : Ref sig .tc := ⟨.hbm, 556, rfl⟩
abbrev main_v30 : Ref sig .tc := ⟨.hbm, 557, rfl⟩

abbrev nD : Nat := 1
abbrev τ : Topo := Topo.v7x

variable {F : FTy → Type} [FloatOps F]
-- ==== Proof.Words.lean ====
/-
  The random words of the mask, as plain functions of 32-bit words: the threefry-2x32 block function on a pair of words,
  the key an example's id gives, and the bit that says whether a position of that example is kept. Both programs are shown
  to compute these, the kernel in its vector operations (`Vec` below) and the reference in the host's.
-/
module

public import Idealize.ShloMosaic.PureOps.Vector
public import Idealize.ShloMosaic.PureOps.ShapeOps

@[expose] public section

noncomputable section

namespace Cert.Words

open Idealize.ShloMosaic

/-! ## On words -/

/-- A pair of words, the state of the block function. -/
abbrev Pair := BitVec 32 × BitVec 32

/-- One round by rotation `r`: add the second word to the first, rotate the second left by `r`, exclusive-or the first in. -/
def mix (r : Nat) (p : Pair) : Pair :=
  (p.1 + p.2, (p.1 + p.2) ^^^ (p.2 <<< r ||| p.2 >>> (32 - r)))

/-- One key injection: a key word added to each word, and the injection's number to the second. -/
def inject (ka kb : BitVec 32) (n : Nat) (p : Pair) : Pair := (p.1 + ka, p.2 + kb + BitVec.ofNat 32 n)

/-- Four rounds by the first set of rotations … -/
def four (p : Pair) : Pair := mix 6 (mix 26 (mix 15 (mix 13 p)))
/-- … and by the second. -/
def four' (p : Pair) : Pair := mix 24 (mix 16 (mix 29 (mix 17 p)))

/-- Twenty rounds with the five injections of the key words `a b c` between them. -/
def twenty (a b c : BitVec 32) (p : Pair) : Pair :=
  inject c a 5 (four (inject b c 4 (four' (inject a b 3 (four (inject c a 2 (four' (inject b c 1 (four p)))))))))

/-- The third key word. -/
def third (a b : BitVec 32) : BitVec 32 := a ^^^ b ^^^ 466688986#32

/-- The threefry-2x32 block function: key `(a, b)`, counter `(x, y)`. -/
def block (a b x y : BitVec 32) : Pair := twenty a b (third a b) (x + a, y + b)

/-- The key of an example: the seed 101010 as a key, the example's id as the counter. -/
def rowKey (id : BitVec 32) : Pair := block 0#32 101010#32 0#32 id

/-- The 23 random bits at counter `j` of a key: both result words exclusive-ored, the low nine bits dropped. -/
def draw (k : Pair) (j : BitVec 32) : BitVec 32 := ((block k.1 k.2 0#32 j).1 ^^^ (block k.1 k.2 0#32 j).2) >>> 9

/-- Position `q` of the 1024 features of an example is kept: one of the first 192 (the three fixed channels), or a position
    whose 23 random bits are below 838861, the first integer whose quotient by 2^23 is not below 0.1. -/
def kept (id : BitVec 32) (q : Nat) : Prop :=
  q < 192 ∨ (draw (rowKey id) (BitVec.ofNat 32 (q - 192))).toNat < 838861

/-! ## Shifts of the programs, by amounts below 32 -/

/-- A left shift by a literal below 32 is the word's shift, on whichever unit. -/
theorem shli_lit (u : ArithUnit) (x : BitVec 32) (r : Nat) (h : r < 32) : IntOp.shli u x (BitVec.ofNat 32 r) = x <<< r := by
  have e : (BitVec.ofNat 32 r).toNat = r := by rw [BitVec.toNat_ofNat]; omega
  unfold IntOp.shli
  rw [if_pos (by omega), BitVec.shiftLeft_eq', e]

/-- A right shift by a literal below 32 is the word's shift, on whichever unit. -/
theorem shrui_lit (u : ArithUnit) (x : BitVec 32) (r : Nat) (h : r < 32) : IntOp.shrui u x (BitVec.ofNat 32 r) = x >>> r := by
  have e : (BitVec.ofNat 32 r).toNat = r := by rw [BitVec.toNat_ofNat]; omega
  unfold IntOp.shrui
  rw [if_pos (by omega), BitVec.ushiftRight_eq', e]

/-! ## The same on vectors, in the kernel's operations -/

section Vectors
variable {s : Shape}

/-- A pair of vectors of words. -/
abbrev VPair (s : Shape) := IVec s 32 × IVec s 32

/-- The pair's words at an index. -/
def VPair.at (p : VPair s) (i : s.Idx) : Pair := (p.1 i, p.2 i)

/-- One round, elementwise. -/
def mixV (r : Nat) (p : VPair s) : VPair s :=
  (addi p.1 p.2,
    xori (addi p.1 p.2) (ori (shli p.2 (broadcast s (BitVec.ofNat 32 r))) (shrui p.2 (broadcast s (BitVec.ofNat 32 (32 - r))))))

/-- One injection, elementwise. -/
def injectV (ka kb : IVec s 32) (n : Nat) (p : VPair s) : VPair s :=
  (addi p.1 ka, addi (addi p.2 kb) (broadcast s (BitVec.ofNat 32 n)))

/-- Four rounds, elementwise … -/
def fourV (p : VPair s) : VPair s := mixV 6 (mixV 26 (mixV 15 (mixV 13 p)))
/-- … and by the second set of rotations. -/
def fourV' (p : VPair s) : VPair s := mixV 24 (mixV 16 (mixV 29 (mixV 17 p)))

/-- The twenty rounds, elementwise. -/
def twentyV (a b c : IVec s 32) (p : VPair s) : VPair s :=
  injectV c a 5 (fourV (injectV b c 4 (fourV' (injectV a b 3 (fourV (injectV c a 2 (fourV' (injectV b c 1 (fourV p)))))))))

theorem mixV_at (r : Nat) (h : 0 < r ∧ r < 32) (p : VPair s) (i : s.Idx) : (mixV r p).at i = mix r (p.at i) := by
  show (_, IntOp.xori _ (IntOp.ori (IntOp.shli .vector (p.2 i) _) (IntOp.shrui .vector (p.2 i) _))) = _
  unfold broadcast
  rw [shli_lit _ _ _ h.2, shrui_lit _ _ _ (by omega)]
  rfl

theorem injectV_at (ka kb : IVec s 32) (n : Nat) (p : VPair s) (i : s.Idx) :
    (injectV ka kb n p).at i = inject (ka i) (kb i) n (p.at i) := rfl

theorem fourV_at (p : VPair s) (i : s.Idx) : (fourV p).at i = four (p.at i) := by
  unfold fourV four
  rw [mixV_at _ (by decide), mixV_at _ (by decide), mixV_at _ (by decide), mixV_at _ (by decide)]

theorem fourV'_at (p : VPair s) (i : s.Idx) : (fourV' p).at i = four' (p.at i) := by
  unfold fourV' four'
  rw [mixV_at _ (by decide), mixV_at _ (by decide), mixV_at _ (by decide), mixV_at _ (by decide)]

/-- The vector rounds at an index are the word rounds there. -/
theorem twentyV_at (a b c : IVec s 32) (p : VPair s) (i : s.Idx) :
    (twentyV a b c p).at i = twenty (a i) (b i) (c i) (p.at i) := by
  unfold twentyV twenty
  simp only [injectV_at, fourV_at, fourV'_at]

end Vectors

end Cert.Words

end
-- ==== Proof.KernelBlock.lean ====
/-
  What the kernel's body stores at one grid point, as two families of payloads: the sixteen chunks of sixteen rows, each in
  its first 128 columns (copied) and its other 896 (copied or zeroed by the mask), and the two columns of row keys kept
  between the body's two levels. The body is unrolled, so its run lists every store; here each is shown to be a member of
  its family.
-/
module

public import proofs.«01_k».proof.Proof.Gen.KernelIdeal.Frame
public import proofs.«01_k».proof.Proof.Words

@[expose] public section

set_option maxRecDepth 65536

noncomputable section

namespace Cert.KernelIdeal.Block

open Cert.KernelIdeal Cert.KernelIdeal.Gen Cert.Words
open Idealize.ShloMosaic Idealize.ShloMosaic.TcCoe Idealize.ShloMosaic.Tactic

variable {F : FTy → Type} [FloatOps F]

/-- The block's 256 ids as the body lays them out: two rows of 128, and six rows of zeros. -/
def ids8 (v : Vec F S1x2x128 .i32) : IVec S8x128 32 :=
  concatenate S8x128 0 [⟨S2x128, shapeCast S2x128 v shapeCasts_S1x2x128_S2x128⟩, ⟨S6x128, broadcast S6x128 0#32⟩]
    concatenates_S2x128_S6x128_S8x128_d0

/-- The first level: the block function under the seed's key, the ids as counters. -/
def keys8 (v : Vec F S1x2x128 .i32) : VPair S8x128 :=
  twentyV (broadcast S8x128 0#32) (broadcast S8x128 101010#32)
    (xori (xori (broadcast S8x128 0#32) (broadcast S8x128 101010#32)) (broadcast S8x128 466688986#32))
    (broadcast S8x128 0#32, addi (ids8 v) (broadcast S8x128 101010#32))

/-- One word of the first level's keys, transposed. -/
def keysT (x : IVec S8x128 32) : IVec S128x8 32 := transpose S128x8 [1, 0] x transposes_S8x128_p1_0_S128x8

/-- The keys' column for the ids' row 0 … -/
def col0 (x : IVec S8x128 32) : IVec S128x1 32 :=
  shapeCast S128x1 (extractStridedSlice S128x1 ![0, 0] (keysT x) slices_S128x8_o0_0_S128x1) shapeCasts_S128x1_S128x1
/-- … and for row 1. -/
def col1 (x : IVec S8x128 32) : IVec S128x1 32 :=
  shapeCast S128x1 (extractStridedSlice S128x1 ![0, 1] (keysT x) slices_S128x8_o0_1_S128x1) shapeCasts_S128x1_S128x1

/-- The stores of a column of row keys: rows 128 to 255, and rows 0 to 127 before them. -/
def keyPieces (x : IVec S8x128 32) : List (View.Piece (Elt F) S256x1 .i32) :=
  [⟨Rect.unit (s := S256x1) ![128, 0] S128x1.size (by decide), col1 x⟩, ⟨Rect.unit (s := S256x1) ![0, 0] S128x1.size (by decide), col0 x⟩]

/-- The feature numbers of a chunk's last 896 columns. -/
def feat : IVec S16x896 32 := addi (iota .tc S16x896 32 [1] iota_S16x896_d1_w32) (broadcast S16x896 128#32)

/-- The second level of a chunk: the block function under each row's key, the feature number less 192 as the counter. -/
def words (k0 k1 : Vec F S16x1 .i32) : VPair S16x896 :=
  twentyV (broadcastTo S16x896 k0 broadcasts_S16x1_S16x896) (broadcastTo S16x896 k1 broadcasts_S16x1_S16x896)
    (broadcastTo S16x896 (xori (xori k0 k1) (broadcast S16x1 466688986#32)) broadcasts_S16x1_S16x896)
    (broadcastTo S16x896 (shapeCast S16x1 k0 shapeCasts_S16x1_S16x1) broadcasts_S16x1_S16x896,
      addi (subi feat (broadcast S16x896 192#32)) (broadcastTo S16x896 k1 broadcasts_S16x1_S16x896))

/-- The chunk's mask bit. -/
def bit (k0 k1 : Vec F S16x1 .i32) : IVec S16x896 1 :=
  ori (cmpi .slt feat (broadcast S16x896 192#32))
    (cmpi .ult (shrui (xori (words k0 k1).1 (words k0 k1).2) (broadcast S16x896 9#32)) (broadcast S16x896 838861#32))

/-- What the body stores in a chunk's last 896 columns, from the row keys and the argument's columns. -/
def masked (k0 k1 : Vec F S16x1 .i32) (x : Vec F S16x896 .f32) : FVec F S16x896 .f32 :=
  mulf (shapeCast S16x896 x shapeCasts_S16x896_S16x896)
    (select (bit k0 k1) (broadcast S16x896 (Scalar.ofBits .f32 0x3F800000#32)) (broadcast S16x896 (Scalar.ofBits .f32 0x00000000#32)))

/-- The last 896 columns of the sixteen rows of chunk `c`. -/
abbrev right (c : Fin 16) : Rect S256x1024 :=
  Rect.unit (s := S256x1024) ![16 * c.val, 128] S16x896.size (by revert c; decide)
/-- Their first 128 columns. -/
abbrev left (c : Fin 16) : Rect S256x1024 :=
  Rect.unit (s := S256x1024) ![16 * c.val, 0] S16x128.size (by revert c; decide)
/-- The sixteen row keys of chunk `c`. -/
abbrev keyRows (c : Fin 16) : Rect S256x1 :=
  Rect.unit (s := S256x1) ![16 * c.val, 0] S16x1.size (by revert c; decide)

section Run
variable (d : Dev nD) (i : grid0.Coords) (arg1 : Memref sig .tc .vmem S1x2x128 .i32) (harg1 : arg1.IsWhole) (arg2 : Memref sig .tc .vmem S256x1024 .f32)
  (harg2 : arg2.IsWhole) (arg3 : Memref sig .tc .vmem S256x1024 .f32) (harg3 : arg3.IsWhole) (arg4 : Memref sig .tc .vmem S256x1 .i32) (harg4 : arg4.IsWhole)
  (arg5 : Memref sig .tc .vmem S256x1 .i32) (harg5 : arg5.IsWhole) (x0 : Vec F S1x2x128 .i32) (x1 : Vec F S256x1024 .f32)

/-- The ids the body loads. -/
def ids : Vec F S1x2x128 .i32 :=
  View.readAt (Elt F) arg1.view (Rect.unit (s := S1x2x128) ![0, 0, 0] S1x2x128.size (by decide)).toLoadRect (harg1.unread x0)

/-- The first words of chunk `c`'s row keys, read back. -/
def key0 (c : Fin 16) : Vec F S16x1 .i32 := arg4.view.readCov (keyPieces (F := F) (keys8 (ids arg1 harg1 x0)).1) (keyRows c).toLoadRect
/-- The second words. -/
def key1 (c : Fin 16) : Vec F S16x1 .i32 := arg5.view.readCov (keyPieces (F := F) (keys8 (ids arg1 harg1 x0)).2) (keyRows c).toLoadRect

/-- The store of chunk `c`'s last 896 columns … -/
def rightPiece (c : Fin 16) : View.Piece (Elt F) S256x1024 .f32 :=
  ⟨right c, masked (key0 arg1 harg1 arg4 x0 c) (key1 arg1 harg1 arg5 x0 c) (View.readAt (Elt F) arg2.view (right c).toLoadRect (harg2.unread x1))⟩
/-- … and of its first 128. -/
def leftPiece (c : Fin 16) : View.Piece (Elt F) S256x1024 .f32 :=
  ⟨left c, shapeCast S16x128 (View.readAt (Elt F) arg2.view (left c).toLoadRect (harg2.unread x1)) shapeCasts_S16x128_S16x128⟩

/-- The stores of row keys are the first level's. -/
theorem keyPieces0_eq : kernelRun0_A.sl.HS0_2 d arg1 harg1 x0 = keyPieces (keys8 (ids arg1 harg1 x0)).1 := by
  sl_kernel_rfl

theorem keyPieces1_eq : kernelRun0_A.sl.HS1_2 d arg1 harg1 x0 = keyPieces (keys8 (ids arg1 harg1 x0)).2 := by
  sl_kernel_rfl

/-- Every store of the result block, the newest first. -/
theorem pieces_eq : (kernelRun0_A d i arg1 harg1 arg2 harg2 arg3 harg3 arg4 harg4 arg5 harg5 x0 x1).1
    = (List.finRange 16).reverse.flatMap fun c => [rightPiece arg1 harg1 arg2 harg2 arg4 arg5 x0 x1 c, leftPiece arg2 harg2 x1 c] := by
  sl_kernel_rfl

end Run

end Cert.KernelIdeal.Block

end
-- ==== Proof.KernelRows.lean ====
/-
  What one grid point leaves in its result block, element by element: the argument's element where the mask keeps it and
  the argument's element times zero where it does not. The first level's keys are read at a row, the second level's words at
  a position, and the thirty-two stores of the block all agree with that one function.
-/
module

public import proofs.«01_k».proof.Proof.KernelBlock
public import Idealize.ShloMosaic.Lib.Pipeline.Value
public import Idealize.ShloMosaic.Lib.ValueIdx
public import Idealize.ShloMosaic.Lib.IdealHost
public import Idealize.ShloMosaic.Lib.WholeRead

@[expose] public section

set_option maxRecDepth 16384

noncomputable section

namespace Cert.KernelIdeal.Block

open Cert.KernelIdeal Cert.KernelIdeal.Gen Cert.Words
open Idealize.ShloMosaic Idealize.ShloMosaic.TcCoe Idealize.ShloMosaic.ValueIdx

/-! ## The two levels at an index -/

section Levels
variable {F : FTy → Type} [FloatOps F]

/-- Row `b` of a block's 256 has its id in row `b / 128`, lane `b % 128` of the block of ids. -/
def rowId (v : Vec F S1x2x128 .i32) (b : Fin 256) : BitVec 32 :=
  v (ix3 0 ⟨b.val / 128, by omega⟩ ⟨b.val % 128, by omega⟩)

/-- The first two rows of the padded ids are the ids. -/
theorem ids8_apply (v : Vec F S1x2x128 .i32) (s : Fin 2) (l : Fin 128) :
    ids8 v (ix2 ⟨s.val, by omega⟩ l) = v (ix3 0 s l) := by
  unfold ids8
  refine (concatenate_pair_apply_left (t := S8x128) (s₁ := S2x128) 0 _ _ _ (ix2 ⟨s.val, by omega⟩ l) rfl (ix2 s l) (fun b => ?_)).trans ?_
  · match b with
    | ⟨0, _⟩ => rfl
    | ⟨1, _⟩ => rfl
  · refine shapeCast_apply _ _ _ (ix3 0 s l) ?_
    simp [Shape.rowMajor_val_two, Shape.rowMajor_val_three]

/-- The first level at an id is the id's key. -/
theorem keys8_at (v : Vec F S1x2x128 .i32) (s : Fin 2) (l : Fin 128) :
    (keys8 v).at (ix2 ⟨s.val, by omega⟩ l) = rowKey (v (ix3 0 s l)) := by
  unfold keys8
  rw [twentyV_at]
  show twenty 0#32 101010#32 (third 0#32 101010#32) (0#32, ids8 v _ + 101010#32) = _
  rw [ids8_apply]
  rfl

/-- A column of row keys: row `b`'s key word in row `b`. -/
def keyCol (x : IVec S8x128 32) (y : S256x1.Idx) : BitVec 32 :=
  x (ix2 ⟨(y 0).val / 128, by have := idx2_lt0 y; omega⟩ ⟨(y 0).val % 128, by omega⟩)

theorem col0_apply (x : IVec S8x128 32) (j : S128x1.Idx) : col0 x j = x (ix2 0 (j 0)) := by
  unfold col0 keysT
  refine (shapeCast_apply _ _ _ j rfl).trans ?_
  refine (extractStridedSlice_apply _ _ _ _ (ix2 (j 0) 0) fun a => ?_).trans ?_
  · match a with
    | ⟨0, _⟩ => show (j 0).val = 0 + (j 0).val; omega
    | ⟨1, _⟩ => show 0 = 0 + (j 1).val; have := idx2_lt1 j; omega
  · refine transpose_apply _ _ _ _ _ fun b => ?_
    match b with
    | ⟨0, _⟩ => rfl
    | ⟨1, _⟩ => rfl

theorem col1_apply (x : IVec S8x128 32) (j : S128x1.Idx) : col1 x j = x (ix2 1 (j 0)) := by
  unfold col1 keysT
  refine (shapeCast_apply _ _ _ j rfl).trans ?_
  refine (extractStridedSlice_apply _ _ _ _ (ix2 (j 0) 1) fun a => ?_).trans ?_
  · match a with
    | ⟨0, _⟩ => show (j 0).val = 0 + (j 0).val; omega
    | ⟨1, _⟩ => show 1 = 1 + (j 1).val; have := idx2_lt1 j; omega
  · refine transpose_apply _ _ _ _ _ fun b => ?_
    match b with
    | ⟨0, _⟩ => rfl
    | ⟨1, _⟩ => rfl

/-- Both stores of a column of keys agree with the column. -/
theorem keyPieces_agree (x : IVec S8x128 32) :
    ∀ p ∈ keyPieces (F := F) x, ∀ j : p.1.shape.Idx, p.2 j = keyCol x (p.1.emb j) := by
  intro p hp
  simp only [keyPieces, List.mem_cons, List.not_mem_nil, or_false] at hp
  rcases hp with rfl | rfl
  · intro j
    refine (col1_apply x j).trans (congrArg x ?_)
    have h : (j 0).val < 128 := (j 0).isLt
    funext a
    match a with
    | ⟨0, _⟩ => apply Fin.ext; show 1 = (128 + 1 * (j 0).val) / 128; omega
    | ⟨1, _⟩ => apply Fin.ext; show (j 0).val = (128 + 1 * (j 0).val) % 128; omega
  · intro j
    refine (col0_apply x j).trans (congrArg x ?_)
    have h : (j 0).val < 128 := (j 0).isLt
    funext a
    match a with
    | ⟨0, _⟩ => apply Fin.ext; show 0 = (0 + 1 * (j 0).val) / 128; omega
    | ⟨1, _⟩ => apply Fin.ext; show (j 0).val = (0 + 1 * (j 0).val) % 128; omega

/-- The two stores fill the column. -/
theorem keyPieces_cover (x : IVec S8x128 32) (y : S256x1.Idx) : ∃ p ∈ keyPieces (F := F) x, y ∈ p.1.set := by
  have h0 := idx2_lt0 y
  have h1 := idx2_lt1 y
  by_cases h : (y 0).val < 128
  · have inb : ∀ a : Fin 2, (![0, 0] : Fin 2 → Nat) a + S128x1.size a ≤ S256x1.size a := by decide
    refine ⟨⟨Rect.unit (s := S256x1) ![0, 0] S128x1.size inb, col0 x⟩, List.mem_cons_of_mem _ List.mem_cons_self, ?_⟩
    rw [Rect.mem_set_unit]
    intro a
    match a with
    | ⟨0, _⟩ => show 0 ≤ (y 0).val ∧ (y 0).val < 0 + 128; omega
    | ⟨1, _⟩ => show 0 ≤ (y 1).val ∧ (y 1).val < 0 + 1; omega
  · refine ⟨_, List.mem_cons_self, ?_⟩
    rw [Rect.mem_set_unit]
    intro a
    match a with
    | ⟨0, _⟩ => show 128 ≤ (y 0).val ∧ (y 0).val < 128 + 128; omega
    | ⟨1, _⟩ => show 0 ≤ (y 1).val ∧ (y 1).val < 0 + 1; omega

/-- A load of sixteen row keys reads the column. -/
theorem key_apply {sp : Space} (w : View sig .tc sp S256x1 .i32) (x : IVec S8x128 32) (c : Fin 16) (j : S16x1.Idx) :
    w.readCov (keyPieces (F := F) x) (keyRows c).toLoadRect j = keyCol x ((keyRows c).emb j) :=
  View.read_writes_apply_of_pieces (Val := Elt F) w w.junk (keyCol x) _ (keyPieces_agree (F := F) x) ((keyRows c).emb j) (keyPieces_cover (F := F) x _)

/-- Feature numbers count from 128. -/
theorem feat_apply (r : Fin 16) (j : Fin 896) : feat (ix2 r j) = BitVec.ofNat 32 (128 + j.val) := by
  show BitVec.ofNat 32 (0 * 896 + j.val) + 128#32 = _
  rw [← BitVec.ofNat_add]
  congr 1; omega

/-- The second level at a position is the block function under the row's key, the feature number less 192 the counter. -/
theorem words_at (k0 k1 : Vec F S16x1 .i32) (r : Fin 16) (j : Fin 896) :
    (words k0 k1).at (ix2 r j) = block (k0 (ix2 r 0)) (k1 (ix2 r 0)) 0#32 (BitVec.ofNat 32 (128 + j.val) - 192#32) := by
  unfold words
  rw [twentyV_at]
  have e : ∀ x : IVec S16x1 32, broadcastTo S16x896 x broadcasts_S16x1_S16x896 (ix2 r j) = x (ix2 r 0) := fun x =>
    broadcastTo_apply _ _ _ _ fun a => by
      match a with
      | ⟨0, _⟩ => rfl
      | ⟨1, _⟩ => rfl
  have e' : shapeCast S16x1 k0 shapeCasts_S16x1_S16x1 (ix2 r 0) = k0 (ix2 r 0) := shapeCast_apply _ _ _ _ rfl
  show twenty (broadcastTo S16x896 k0 _ _) (broadcastTo S16x896 k1 _ _) (broadcastTo S16x896 _ _ _)
    (broadcastTo S16x896 _ _ _, feat (ix2 r j) - 192#32 + broadcastTo S16x896 k1 _ _) = _
  rw [e, e, e, e, e', feat_apply]
  unfold block
  rw [BitVec.zero_add]
  rfl

/-- The mask bit at a position is `kept`'s. -/
theorem bit_apply (k0 k1 : Vec F S16x1 .i32) (r : Fin 16) (j : Fin 896) (id : BitVec 32)
    (hk : (k0 (ix2 r 0), k1 (ix2 r 0)) = rowKey id) : bit k0 k1 (ix2 r j) = 1#1 ↔ kept id (128 + j.val) := by
  have h0 : k0 (ix2 r 0) = (rowKey id).1 := congrArg Prod.fst hk
  have h1 : k1 (ix2 r 0) = (rowKey id).2 := congrArg Prod.snd hk
  have hw := words_at k0 k1 r j
  rw [h0, h1] at hw
  have w0 : (words k0 k1).1 (ix2 r j) = _ := congrArg Prod.fst hw
  have w1 : (words k0 k1).2 (ix2 r j) = _ := congrArg Prod.snd hw
  have hb : bit k0 k1 (ix2 r j) = BitVec.ofBool ((feat (ix2 r j)).slt 192#32)
      ||| BitVec.ofBool ((IntOp.shrui .vector ((words k0 k1).1 (ix2 r j) ^^^ (words k0 k1).2 (ix2 r j)) 9#32).ult 838861#32) := rfl
  rw [hb, w0, w1, shrui_lit _ _ _ (by decide), feat_apply]
  have hj := j.isLt
  have hs : (BitVec.ofNat 32 (128 + j.val)).slt 192#32 = decide (128 + j.val < 192) := by
    rw [BitVec.slt_eq_decide, BitVec.toInt_eq_toNat_of_lt (by rw [BitVec.toNat_ofNat]; omega), BitVec.toNat_ofNat]
    simp only [decide_eq_decide]
    have : (192#32).toInt = 192 := by decide
    omega
  rw [hs]
  unfold kept
  by_cases h : 128 + j.val < 192
  · simp only [h, decide_true, true_or, iff_true]
    show BitVec.ofBool true ||| _ = 1#1
    generalize BitVec.ofBool (BitVec.ult _ _) = z
    exact (by decide : ∀ z : BitVec 1, BitVec.ofBool true ||| z = 1#1) z
  · have e : BitVec.ofNat 32 (128 + j.val) - 192#32 = BitVec.ofNat 32 (128 + j.val - 192) := by
      apply BitVec.eq_of_toNat_eq
      rw [BitVec.toNat_sub, BitVec.toNat_ofNat, BitVec.toNat_ofNat, BitVec.toNat_ofNat]; omega
    rw [e]
    simp only [h, decide_false, false_or]
    unfold draw
    generalize (((block (rowKey id).1 (rowKey id).2 0#32 (BitVec.ofNat 32 (128 + j.val - 192))).1
      ^^^ (block (rowKey id).1 (rowKey id).2 0#32 (BitVec.ofNat 32 (128 + j.val - 192))).2) >>> 9 : BitVec 32) = z
    have : z.ult 838861#32 = decide (z.toNat < 838861) := rfl
    rw [this]
    by_cases hz : z.toNat < 838861 <;> simp [hz]

end Levels

/-! ## The block's elements -/

section Elements

open Classical in
/-- The mask's value: one where the position is kept, zero elsewhere. -/
def maskOf (id : BitVec 32) (q : Nat) : EReal := if kept id q then 1 else 0

/-- What a chunk stores in its last 896 columns, at a position. -/
theorem masked_apply (k0 k1 : Vec Ideal S16x1 .i32) (x : Vec Ideal S16x896 .f32) (r : Fin 16) (j : Fin 896) (id : BitVec 32)
    (hk : (k0 (ix2 r 0), k1 (ix2 r 0)) = rowKey id) : masked k0 k1 x (ix2 r j) = x (ix2 r j) * maskOf id (128 + j.val) := by
  unfold masked
  rw [mulf_apply]
  have hx : shapeCast S16x896 x shapeCasts_S16x896_S16x896 (ix2 r j) = x (ix2 r j) := shapeCast_apply _ _ _ _ rfl
  rw [hx]
  congr 1
  show (if bit k0 k1 (ix2 r j) = 1 then Ideal.ofBits .f32 0x3F800000#32 else Ideal.ofBits .f32 0x00000000#32) = _
  rw [Ideal.ofBits_one_f32, show Ideal.ofBits .f32 0x00000000#32 = 0 by simp [Ideal.ofBits, Ideal.ieee]]
  unfold maskOf
  classical
  exact if_congr (bit_apply k0 k1 r j id hk) rfl rfl

variable (d : Dev nD) (i : grid0.Coords) (arg1 : Memref sig .tc .vmem S1x2x128 .i32) (harg1 : arg1.IsWhole) (arg2 : Memref sig .tc .vmem S256x1024 .f32)
  (harg2 : arg2.IsWhole) (arg3 : Memref sig .tc .vmem S256x1024 .f32) (harg3 : arg3.IsWhole) (arg4 : Memref sig .tc .vmem S256x1 .i32) (harg4 : arg4.IsWhole)
  (arg5 : Memref sig .tc .vmem S256x1 .i32) (harg5 : arg5.IsWhole) (x0 : Vec Ideal S1x2x128 .i32) (x1 : Vec Ideal S256x1024 .f32)

/-- The block's result: the argument's block times the mask of each row's id. -/
def result (x0 : Vec Ideal S1x2x128 .i32) (x1 : Vec Ideal S256x1024 .f32) (y : S256x1024.Idx) : EReal :=
  x1 y * maskOf (rowId x0 (y 0)) (y 1).val

theorem ids_eq : ids arg1 harg1 x0 = x0 := by
  funext j
  refine (harg1.readAt_unread x0 (Rect.unit (s := S1x2x128) ![0, 0, 0] S1x2x128.size (by decide)).toLoadRect j).trans (congrArg x0 (funext fun a => Fin.ext ?_))
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- The keys a chunk loads are its rows' ids' keys. -/
theorem keys_apply (c r : Fin 16) :
    (key0 arg1 harg1 arg4 x0 c (ix2 r 0), key1 arg1 harg1 arg5 x0 c (ix2 r 0))
      = rowKey (rowId x0 ⟨16 * c.val + r.val, by omega⟩) := by
  unfold key0 key1
  rw [key_apply, key_apply, ids_eq]
  have h := keys8_at x0 ⟨(16 * c.val + r.val) / 128, by omega⟩ ⟨(16 * c.val + r.val) % 128, by omega⟩
  unfold rowId
  rw [← h]
  unfold keyCol VPair.at
  have e : ((keyRows c).emb (ix2 r 0) 0).val = 16 * c.val + r.val := by
    show 16 * c.val + 1 * r.val = _; omega
  simp only [e]

theorem right_agrees (c : Fin 16) (j : (right c).shape.Idx) :
    (rightPiece arg1 harg1 arg2 harg2 arg4 arg5 x0 x1 c).2 j = result x0 x1 ((right c).emb j) := by
  obtain ⟨r, k, rfl⟩ : ∃ (r : Fin 16) (k : Fin 896), j = ix2 r k := ⟨j 0, j 1, eq_ix2 j⟩
  refine (masked_apply _ _ _ r k _ (keys_apply arg1 harg1 arg4 arg5 x0 c r)).trans ?_
  unfold result
  have hx := harg2.readAt_unread x1 (right c).toLoadRect (ix2 r k)
  have e0 : (right c).emb (ix2 r k) 0 = (⟨16 * c.val + r.val, by omega⟩ : Fin 256) := by
    apply Fin.ext; show 16 * c.val + 1 * r.val = 16 * c.val + r.val; omega
  have e1 : ((right c).emb (ix2 r k) 1).val = 128 + k.val := by
    show 128 + 1 * k.val = _; omega
  rw [e0, e1]
  exact congrArg (· * _) hx

theorem left_agrees (c : Fin 16) (j : (left c).shape.Idx) :
    (leftPiece arg2 harg2 x1 c).2 j = result x0 x1 ((left c).emb j) := by
  obtain ⟨r, k, rfl⟩ : ∃ (r : Fin 16) (k : Fin 128), j = ix2 r k := ⟨j 0, j 1, eq_ix2 j⟩
  refine (shapeCast_apply (s := S16x128) (t := S16x128) (View.readAt (Elt Ideal) arg2.view (left c).toLoadRect (harg2.unread x1))
    shapeCasts_S16x128_S16x128 (ix2 r k) (ix2 r k) rfl).trans ?_
  unfold result
  have hx := harg2.readAt_unread x1 (left c).toLoadRect (ix2 r k)
  have e1 : ((left c).emb (ix2 r k) 1).val = k.val := by
    show 0 + 1 * k.val = _; omega
  have hm : maskOf (rowId x0 ((left c).emb (ix2 r k) 0)) ((left c).emb (ix2 r k) 1).val = 1 := by
    unfold maskOf
    exact if_pos (Or.inl (by rw [e1]; omega))
  rw [hm, mul_one]
  exact hx

/-- WHAT A GRID POINT LEAVES: its block of the argument times the mask of each row's id. -/
theorem out_eq : out0_A_2 d i arg1 harg1 arg2 harg2 arg3 harg3 arg4 harg4 arg5 harg5 x0 x1 = result x0 x1 := by
  funext y
  unfold out0_A_2
  refine View.read_writes_apply_of_pieces _ _ (result x0 x1) _ ?_ y (cover0_A_2 d i arg1 harg1 arg2 harg2 arg3 harg3 arg4 harg4 arg5 harg5 x0 x1 y)
  rw [pieces_eq]
  intro p hp
  obtain ⟨c, -, hp⟩ := List.mem_flatMap.1 hp
  simp only [List.mem_cons, List.not_mem_nil, or_false] at hp
  rcases hp with rfl | rfl
  · exact right_agrees arg1 harg1 arg2 harg2 arg4 arg5 x0 x1 c
  · exact left_agrees arg2 harg2 x0 x1 c

end Elements

end Cert.KernelIdeal.Block

end
-- ==== Proof.KernelArray.lean ====
/-
  What the kernel's result array holds after the sixteen grid points: at row `n`, feature `q`, the reshaped argument's element
  times the mask of example `n`'s id. Every grid point writes its own 256 rows; the blocks tile the array.
-/
module

public import proofs.«01_k».proof.Proof.KernelRows
public import proofs.«01_k».proof.Proof.Gen.KernelIdeal.Run
public import Idealize.ShloMosaic.Lib.Pipeline.ValueKit

@[expose] public section

noncomputable section

namespace Cert.KernelIdeal.Block

open Cert.KernelIdeal Cert.KernelIdeal.Gen Cert.Words
open Idealize.ShloMosaic Idealize.ShloMosaic.TcCoe Idealize.ShloMosaic.ValueIdx Idealize.ShloMosaic.StableHlo

variable (m : (ℓ : Loc nD τ sig) → Buf (Elt Ideal) ℓ)

/-- The region finds the argument reshaped to rows of 1024 features … -/
theorem V_main_v0 (c : Dev nD) : V m c main_v0
    = shapeCast S4096x1024 (m ((c.tc : Thread nD τ).loc main_arg0)) shapeCasts_S4096x16x8x8_S4096x1024 := by
  show after (List.flatten [hostOps0]) _ _ = _
  simp only [Gen.hostOps0, List.flatten_cons, List.flatten_nil, List.append_nil, List.cons_append, List.nil_append]
  after_results <;> rfl

/-- … and the ids reshaped to sixteen blocks of two rows of 128. -/
theorem V_main_v1 (c : Dev nD) : V m c main_v1
    = shapeCast S16x2x128 (m ((c.tc : Thread nD τ).loc main_arg1)) shapeCasts_S4096_S16x2x128 := by
  show after (List.flatten [hostOps0]) _ _ = _
  simp only [Gen.hostOps0, List.flatten_cons, List.flatten_nil, List.append_nil, List.cons_append, List.nil_append]
  after_results <;> rfl

/-- The result array: the reshaped argument times the mask of each row's id. -/
def whole (X : Vec Ideal S4096x16x8x8 .f32) (ids : Vec Ideal S4096 .i32) (y : S4096x1024.Idx) : EReal :=
  shapeCast S4096x1024 X shapeCasts_S4096x16x8x8_S4096x1024 y * maskOf (ids (ValueIdx.ix1 (y 0))) (y 1).val

/-- Grid point `t` is block row `t` of the ids, of the argument and of the result. -/
theorem index_eq : ∀ t : Fin cfg0.N, (win0_0.index t 0 = t.val ∧ win0_0.index t 1 = 0 ∧ win0_0.index t 2 = 0)
    ∧ (win0_1.index t 0 = t.val ∧ win0_1.index t 1 = 0) ∧ (win0_2.index t 0 = t.val ∧ win0_2.index t 1 = 0) := by
  decide +kernel

/-- The ids of grid point `t`'s rows are the ids of the array's rows. -/
theorem rowId_block (c : Dev nD) (t : Fin cfg0.N) (b : Fin 256) (n : Fin 4096) (hn : n.val = t.val * 256 + b.val) :
    rowId (iblk m c 0 t) b = m ((c.tc : Thread nD τ).loc main_arg1) (ValueIdx.ix1 n) := by
  unfold rowId
  blk_simp [iblk]
  rw [V_main_v1]
  refine shapeCast_apply _ _ _ (ValueIdx.ix1 n) ?_
  obtain ⟨⟨e0, e1, e2⟩, -, -⟩ := index_eq t
  rw [Shape.rowMajor_val_one, Shape.rowMajor_val_three]
  blk_simp [e0, e1, e2]
  show n.val = (t.val * 2 + b.val / 128) * 128 + b.val % 128
  omega

theorem region_eq (c : Dev nD) : Value.reg_main_v2 m c
    = whole (m ((c.tc : Thread nD τ).loc main_arg0)) (m ((c.tc : Thread nD τ).loc main_arg1)) := by
  unfold Value.reg_main_v2
  refine (dats m 0 c).arrAt_eq_of_covers 2 _ (by decide +kernel) fun t hf y => ?_
  blk_simp
  rw [after0_2]
  unfold outsAt0
  rw [out_eq]
  obtain ⟨-, ⟨e0, e1⟩, e2, e3⟩ := index_eq t
  unfold result whole
  rw [rowId_block m c t (y 0) ((win0_2.blk t).view.emb y 0) (by blk_simp [e2])]
  have hq : ((win0_2.blk t).view.emb y 1).val = (y 1).val := by blk_simp [e3]
  have hx : iblk m c 1 t y = shapeCast S4096x1024 (m ((c.tc : Thread nD τ).loc main_arg0)) shapeCasts_S4096x16x8x8_S4096x1024
      ((win0_2.blk t).view.emb y) := by
    rw [← V_main_v0 m c]
    rfl
  rw [hq]
  exact congrArg (· * _) hx

end Cert.KernelIdeal.Block

end
-- ==== Proof.HostLine.lean ====
/-
  A straight line of host operations in single-assignment form, and what its final memory satisfies. Every buffer is numbered,
  every operation writes one buffer whose number is above all the numbers it reads and above all those written before it.
  Then the memory at the end satisfies EVERY operation's equation at once: the result's buffer holds the operation's
  function of what the operands' buffers hold at the end. `Block p lo hi Q` says this of a program `p` that writes numbers
  `lo … hi - 1`: it is such a line, and a memory satisfying its equations has the property `Q`. Blocks compose.
-/
module

public import Idealize.ShloMosaic.Lib.StableHlo.RunHlo

@[expose] public section

noncomputable section

namespace Cert.HostLine

open Idealize.SL.Sem Idealize.ShloMosaic Idealize.ShloMosaic.StableHlo Idealize.ShloMosaic.TcCoe

variable {nD : Nat} {τ : Topo} {sig : RefSig} {Val : EltTy → Type} {Λ : Labels}

/-- A buffer's number: its index in its memory space. -/
def num (r : Ref sig .tc) : ℕ := r.idx.val

/-- The contents a memory has at a typed reference, at the reference's type. -/
def val {T : BufTy} (W : Valuation τ sig Val) (t : TRef sig T) : T.Contents Val := t.ofBuf (W (Proc.devRef .tc t.ref))

/-- Operation `op` writes the one buffer numbered `n`, reads lower numbers only, and determines what it writes. -/
structure Step (op : HloOp τ sig Val) (n : ℕ) : Prop where
  touched : ∀ b ∈ op.bufs, ∃ r : Ref sig .tc, b = Proc.devRef .tc r ∧ num r ≤ n
  written : ∃ y : Ref sig .tc, num y = n ∧ op.writes = {Proc.devRef .tc y}
  again : ∀ W : Valuation τ sig Val, op.result (op.result W) = op.result W
  fresh : op.fresh = ∅

/-- The operations write increasing numbers, at least `lo` and below `hi`. -/
def Line : ℕ → List (HloOp τ sig Val) → ℕ → Prop
  | lo, [], hi => lo ≤ hi
  | lo, op :: ops, hi => ∃ k, lo ≤ k ∧ Step op k ∧ Line (k + 1) ops hi

theorem Line.append {l₁ l₂ : List (HloOp τ sig Val)} {a b c : ℕ} (h₁ : Line a l₁ b) (h₂ : Line b l₂ c) :
    Line a (l₁ ++ l₂) c := by
  induction l₁ generalizing a with
  | nil =>
    have h₁ : a ≤ b := h₁
    cases l₂ with
    | nil => exact le_trans h₁ h₂
    | cons o l => obtain ⟨k, hk, hs, hl⟩ := h₂; exact ⟨k, h₁.trans hk, hs, hl⟩
  | cons o l ih => obtain ⟨k, hk, hs, hl⟩ := h₁; exact ⟨k, hk, hs, ih hl⟩

/-- A line leaves the buffers of lower number as they were. -/
theorem Line.below {ops : List (HloOp τ sig Val)} {lo hi : ℕ} (h : Line lo ops hi) (V : Valuation τ sig Val)
    {r : Ref sig .tc} (hr : num r < lo) : after ops V (Proc.devRef .tc r) = V (Proc.devRef .tc r) := by
  induction ops generalizing lo V with
  | nil => rfl
  | cons op ops ih =>
    obtain ⟨k, hk, hs, hl⟩ := h
    rw [after_cons, ih hl _ (by omega)]
    obtain ⟨y, hy, hw⟩ := hs.written
    refine op.result_of_not_mem V ?_
    rw [hw, Finset.mem_singleton]
    intro e
    have e := Proc.devRef_injective _ e
    rw [e] at hr
    omega

/-- At the end of a line every one of its operations, run again, changes nothing. -/
theorem Line.fixed {ops : List (HloOp τ sig Val)} {lo hi : ℕ} (h : Line lo ops hi) (V : Valuation τ sig Val) :
    ∀ op ∈ ops, op.result (after ops V) = after ops V := by
  induction ops generalizing lo V with
  | nil => intro op h; cases h
  | cons o ops ih =>
    obtain ⟨k, hk, hs, hl⟩ := h
    intro op hop
    rw [after_cons]
    rcases List.mem_cons.mp hop with rfl | hop
    · have same : ∀ b ∈ op.bufs, after ops (op.result V) b = op.result V b := by
        intro b hb
        obtain ⟨r, rfl, hr⟩ := hs.touched b hb
        exact hl.below _ (by omega)
      funext b
      by_cases hb : b ∈ op.writes
      · have hb' := op.writes_sub hb
        rw [op.result_congr same b hb', hs.again, same b hb']
      · exact op.result_of_not_mem _ hb
    · exact ih hl _ op hop

theorem Line.within {ops : List (HloOp τ sig Val)} {lo hi : ℕ} (h : Line lo ops hi) :
    ops.Forall fun op => op.bufs ⊆ tcRefs τ sig := by
  induction ops generalizing lo with
  | nil => trivial
  | cons o ops ih =>
    obtain ⟨k, hk, hs, hl⟩ := h
    refine (List.forall_cons _ _ _).mpr ⟨fun b hb => ?_, ih hl⟩
    obtain ⟨r, rfl, -⟩ := hs.touched b hb
    exact devRef_mem_tcRefs r

theorem Line.fresh {ops : List (HloOp τ sig Val)} {lo hi : ℕ} (h : Line lo ops hi) : ∀ op ∈ ops, op.fresh = ∅ := by
  induction ops generalizing lo with
  | nil => intro op h; cases h
  | cons o ops ih =>
    obtain ⟨k, hk, hs, hl⟩ := h
    intro op hop
    rcases List.mem_cons.mp hop with rfl | hop
    · exact hs.fresh
    · exact ih hl op hop

/-! ## Single operations -/

/-- An operation whose result buffer's new contents do not change when its own result is already there. -/
theorem again_of {op : HloOp τ sig Val} {y : Ref sig .tc} (hw : op.writes = {Proc.devRef .tc y})
    (h : ∀ W, op.result (op.result W) (Proc.devRef .tc y) = op.result W (Proc.devRef .tc y)) (W : Valuation τ sig Val) :
    op.result (op.result W) = op.result W := by
  funext b
  by_cases hb : b ∈ op.writes
  · rw [hw, Finset.mem_singleton] at hb
    subst hb
    exact h W
  · exact op.result_of_not_mem _ hb

theorem ne_of_num {r y : Ref sig .tc} (h : num r < num y) : r ≠ y := fun e => by rw [e] at h; omega

variable {x a b c y : Ref sig .tc}

theorem step_nullary (v : y.ty.Contents Val) (hy) : Step (nullary (τ := τ) y v hy) (num y) where
  touched d hd := by
    rw [nullary_bufs, Finset.mem_singleton] at hd
    exact ⟨y, hd, le_rfl⟩
  written := ⟨y, rfl, rfl⟩
  again := again_of rfl fun W => by rw [nullary_result', nullary_result']
  fresh := rfl

theorem step_unary (f : x.ty.Contents Val → y.ty.Contents Val) (hx hy) (h : num x < num y) :
    Step (unary (τ := τ) x y f hx hy) (num y) where
  touched d hd := by
    rw [unary_bufs, Finset.mem_insert, Finset.mem_singleton] at hd
    rcases hd with hd | hd
    · exact ⟨x, hd, h.le⟩
    · exact ⟨y, hd, le_rfl⟩
  written := ⟨y, rfl, rfl⟩
  again := again_of rfl fun W => by rw [unary_result', unary_result', unary_result_ne' (h := ne_of_num h)]
  fresh := rfl

theorem step_reshape (he hn hx hy) (h : num x < num y) :
    Step (reshape (τ := τ) (Val := Val) x y he hn hx hy) (num y) where
  touched d hd := by
    rw [reshape_bufs, Finset.mem_insert, Finset.mem_singleton] at hd
    rcases hd with hd | hd
    · exact ⟨x, hd, h.le⟩
    · exact ⟨y, hd, le_rfl⟩
  written := ⟨y, rfl, rfl⟩
  again := again_of rfl fun W => by rw [reshape_result', reshape_result', reshape_result_ne' (h := ne_of_num h)]
  fresh := rfl

theorem step_binary (f : a.ty.Contents Val → b.ty.Contents Val → y.ty.Contents Val) (ha hb hy)
    (h₁ : num a < num y) (h₂ : num b < num y) : Step (binary (τ := τ) a b y f ha hb hy) (num y) where
  touched d hd := by
    rw [binary_bufs, Finset.mem_insert, Finset.mem_insert, Finset.mem_singleton] at hd
    rcases hd with hd | hd | hd
    · exact ⟨a, hd, h₁.le⟩
    · exact ⟨b, hd, h₂.le⟩
    · exact ⟨y, hd, le_rfl⟩
  written := ⟨y, rfl, rfl⟩
  again := again_of rfl fun W => by
    rw [binary_result', binary_result', binary_result_ne' (h := ne_of_num h₁), binary_result_ne' (h := ne_of_num h₂)]
  fresh := rfl

theorem step_ternary (f : c.ty.Contents Val → a.ty.Contents Val → b.ty.Contents Val → y.ty.Contents Val) (hc ha hb hy)
    (h₀ : num c < num y) (h₁ : num a < num y) (h₂ : num b < num y) :
    Step (ternary (τ := τ) c a b y f hc ha hb hy) (num y) where
  touched d hd := by
    rw [ternary_bufs, Finset.mem_insert, Finset.mem_insert, Finset.mem_insert, Finset.mem_singleton] at hd
    rcases hd with hd | hd | hd | hd
    · exact ⟨c, hd, h₀.le⟩
    · exact ⟨a, hd, h₁.le⟩
    · exact ⟨b, hd, h₂.le⟩
    · exact ⟨y, hd, le_rfl⟩
  written := ⟨y, rfl, rfl⟩
  again := again_of rfl fun W => by
    rw [ternary_result', ternary_result', ternary_result_ne' (h := ne_of_num h₀), ternary_result_ne' (h := ne_of_num h₁),
      ternary_result_ne' (h := ne_of_num h₂)]
  fresh := rfl

/-! ## Blocks -/

/-- `p` is a line writing numbers from `lo` to below `hi`, and a memory satisfying its operations' equations satisfies `Q`. -/
def Block (p : Prog (TpuEff nD τ sig Val Λ .tc) PUnit) (lo hi : ℕ) (Q : Valuation τ sig Val → Prop) : Prop :=
  ∃ ops : List (HloOp τ sig Val), IsSeq p ops ∧ Line lo ops hi ∧ ∀ W, (∀ op ∈ ops, op.result W = W) → Q W

theorem Block.weaken {p : Prog (TpuEff nD τ sig Val Λ .tc) PUnit} {lo b hi : ℕ} {Q R : Valuation τ sig Val → Prop}
    (h : Block p lo b Q) (hb : b ≤ hi) (hQ : ∀ W, Q W → R W) : Block p lo hi R := by
  obtain ⟨ops, h₁, h₂, h₃⟩ := h
  exact ⟨ops, h₁, by simpa using h₂.append (l₂ := []) hb, fun W hW => hQ W (h₃ W hW)⟩

theorem Block.start {p : Prog (TpuEff nD τ sig Val Λ .tc) PUnit} {lo b hi : ℕ} {Q : Valuation τ sig Val → Prop}
    (h : Block p b hi Q) (hb : lo ≤ b) : Block p lo hi Q := by
  obtain ⟨ops, h₁, h₂, h₃⟩ := h
  exact ⟨ops, h₁, Line.append (l₁ := []) hb h₂, h₃⟩

/-- One block after another satisfies both properties. -/
theorem Block.bind {p q : Prog (TpuEff nD τ sig Val Λ .tc) PUnit} {a b c : ℕ} {Q R : Valuation τ sig Val → Prop}
    (hp : Block p a b Q) (hq : Block q b c R) : Block (p >>= fun _ => q) a c fun W => Q W ∧ R W := by
  obtain ⟨l₁, s₁, n₁, e₁⟩ := hp
  obtain ⟨l₂, s₂, n₂, e₂⟩ := hq
  refine ⟨l₁ ++ l₂, ?_, n₁.append n₂, fun W hW => ⟨e₁ W fun op h => hW op (List.mem_append_left _ h),
    e₂ W fun op h => hW op (List.mem_append_right _ h)⟩⟩
  unfold IsSeq at *
  rw [s₁, s₂, seq_append]

theorem Block.nil {a b : ℕ} (h : a ≤ b) :
    Block (nD := nD) (τ := τ) (sig := sig) (Val := Val) (Λ := Λ) (pure ⟨⟩) a b fun _ => True :=
  ⟨[], IsSeq.nil, h, fun _ _ => trivial⟩

/-- A single operation is a block. -/
theorem Block.one {op : HloOp τ sig Val} {k lo : ℕ} (hs : Step op k) (hk : lo ≤ k) {Q : Valuation τ sig Val → Prop}
    (hQ : ∀ W, op.result W = W → Q W) :
    Block (nD := nD) (Λ := Λ) (hlo rfl op fun _ => .ret (⟨⟩ : PUnit)) lo (k + 1) Q :=
  ⟨[op], rfl, ⟨k, hk, hs, le_rfl⟩, fun W hW => hQ W (hW op (List.mem_singleton.mpr rfl))⟩

theorem Block.nullary {T : BufTy} {lo : ℕ} {y : TRef sig T} {v : T.Contents Val} (hk : lo ≤ num y.ref) :
    Block (nD := nD) (Λ := Λ) (τ := τ) (hlo rfl (TRef.nullary y v) fun _ => .ret (⟨⟩ : PUnit)) lo (num y.ref + 1)
      fun W => val W y = v :=
  Block.one (step_nullary _ _) hk fun W h => by
    have h := congrFun h (Proc.devRef .tc y.ref)
    rw [nullary_result'] at h
    rw [val, ← h, TRef.ofBuf_toBuf]

theorem Block.unary {Tx T : BufTy} {lo : ℕ} {x : TRef sig Tx} {y : TRef sig T} {f : Tx.Contents Val → T.Contents Val}
    (hk : lo ≤ num y.ref) (hx : num x.ref < num y.ref) :
    Block (nD := nD) (Λ := Λ) (τ := τ) (hlo rfl (TRef.unary x y f) fun _ => .ret (⟨⟩ : PUnit)) lo (num y.ref + 1)
      fun W => val W y = f (val W x) :=
  Block.one (step_unary _ _ _ hx) hk fun W h => by
    have h := congrFun h (Proc.devRef .tc y.ref)
    rw [unary_result'] at h
    rw [val, ← h, TRef.ofBuf_toBuf, val]

theorem Block.binary {Ta Tb T : BufTy} {lo : ℕ} {a : TRef sig Ta} {b : TRef sig Tb} {y : TRef sig T}
    {f : Ta.Contents Val → Tb.Contents Val → T.Contents Val}
    (hk : lo ≤ num y.ref) (ha : num a.ref < num y.ref) (hb : num b.ref < num y.ref) :
    Block (nD := nD) (Λ := Λ) (τ := τ) (hlo rfl (TRef.binary a b y f) fun _ => .ret (⟨⟩ : PUnit)) lo (num y.ref + 1)
      fun W => val W y = f (val W a) (val W b) :=
  Block.one (step_binary _ _ _ _ ha hb) hk fun W h => by
    have h := congrFun h (Proc.devRef .tc y.ref)
    rw [binary_result'] at h
    rw [val, ← h, TRef.ofBuf_toBuf, val, val]

theorem Block.ternary {Tc Ta Tb T : BufTy} {lo : ℕ} {c : TRef sig Tc} {a : TRef sig Ta} {b : TRef sig Tb} {y : TRef sig T}
    {f : Tc.Contents Val → Ta.Contents Val → Tb.Contents Val → T.Contents Val}
    (hk : lo ≤ num y.ref) (hc : num c.ref < num y.ref) (ha : num a.ref < num y.ref) (hb : num b.ref < num y.ref) :
    Block (nD := nD) (Λ := Λ) (τ := τ) (hlo rfl (TRef.ternary c a b y f) fun _ => .ret (⟨⟩ : PUnit)) lo (num y.ref + 1)
      fun W => val W y = f (val W c) (val W a) (val W b) :=
  Block.one (step_ternary _ _ _ _ _ hc ha hb) hk fun W h => by
    have h := congrFun h (Proc.devRef .tc y.ref)
    rw [ternary_result'] at h
    rw [val, ← h, TRef.ofBuf_toBuf, val, val, val]

/-- The transports a reshape of typed references writes are no change. -/
theorem reshape_cast {e : EltTy} {s t : Shape} {X Y : BufTy} (hX : X = ⟨s, e⟩) (hY : Y = ⟨t, e⟩) (he : X.elt = Y.elt)
    (hn : X.shape.ShapeCasts Y.shape) (hn' : s.ShapeCasts t) (v : X.Contents Val) :
    cast (congrArg (fun U : BufTy => U.Contents Val) hY) (fun i => he ▸ shapeCast Y.shape v hn i)
      = shapeCast t (cast (congrArg (fun U : BufTy => U.Contents Val) hX) v) hn' := by
  subst hX hY
  rfl

theorem Block.reshape {e : EltTy} {s t : Shape} {lo : ℕ} {x : TRef sig ⟨s, e⟩} {y : TRef sig ⟨t, e⟩}
    {he : e = e} {hn : s.ShapeCasts t} (hk : lo ≤ num y.ref) (hx : num x.ref < num y.ref) :
    Block (nD := nD) (Λ := Λ) (τ := τ) (Val := Val)
      (hlo rfl (TRef.reshape (Tx := ⟨s, e⟩) (Ty := ⟨t, e⟩) x y he hn) fun _ => .ret (⟨⟩ : PUnit)) lo (num y.ref + 1)
      fun W => val W y = shapeCast t (val W x) hn :=
  Block.one (step_reshape _ _ _ _ hx) hk fun W h => by
    have h := congrFun h (Proc.devRef .tc y.ref)
    rw [reshape_result'] at h
    rw [val, ← h]
    exact reshape_cast x.ty_eq y.ty_eq _ _ _ _

/-! ### The same for operations written at buffers rather than at typed references -/

theorem Block.nullaryAt {lo : ℕ} {y : Ref sig .tc} {v : y.ty.Contents Val} {hy} (hk : lo ≤ num y) :
    Block (nD := nD) (Λ := Λ) (τ := τ) (hlo rfl (StableHlo.nullary y v hy) fun _ => .ret (⟨⟩ : PUnit)) lo (num y + 1)
      fun W => W (Proc.devRef .tc y) = v :=
  Block.one (step_nullary _ _) hk fun W h => by
    have h := congrFun h (Proc.devRef .tc y)
    rw [nullary_result'] at h
    exact h.symm

theorem Block.unaryAt {lo : ℕ} {x y : Ref sig .tc} {f : x.ty.Contents Val → y.ty.Contents Val} {h₁ h₂}
    (hk : lo ≤ num y) (hx : num x < num y) :
    Block (nD := nD) (Λ := Λ) (τ := τ) (hlo rfl (StableHlo.unary x y f h₁ h₂) fun _ => .ret (⟨⟩ : PUnit)) lo (num y + 1)
      fun W => W (Proc.devRef .tc y) = f (W (Proc.devRef .tc x)) :=
  Block.one (step_unary _ _ _ hx) hk fun W h => by
    have h := congrFun h (Proc.devRef .tc y)
    rw [unary_result'] at h
    exact h.symm

theorem Block.binaryAt {lo : ℕ} {a b y : Ref sig .tc} {f : a.ty.Contents Val → b.ty.Contents Val → y.ty.Contents Val}
    {h₁ h₂ h₃} (hk : lo ≤ num y) (ha : num a < num y) (hb : num b < num y) :
    Block (nD := nD) (Λ := Λ) (τ := τ) (hlo rfl (StableHlo.binary a b y f h₁ h₂ h₃) fun _ => .ret (⟨⟩ : PUnit)) lo (num y + 1)
      fun W => W (Proc.devRef .tc y) = f (W (Proc.devRef .tc a)) (W (Proc.devRef .tc b)) :=
  Block.one (step_binary _ _ _ _ ha hb) hk fun W h => by
    have h := congrFun h (Proc.devRef .tc y)
    rw [binary_result'] at h
    exact h.symm

theorem Block.ternaryAt {lo : ℕ} {c a b y : Ref sig .tc}
    {f : c.ty.Contents Val → a.ty.Contents Val → b.ty.Contents Val → y.ty.Contents Val} {h₀ h₁ h₂ h₃}
    (hk : lo ≤ num y) (hc : num c < num y) (ha : num a < num y) (hb : num b < num y) :
    Block (nD := nD) (Λ := Λ) (τ := τ) (hlo rfl (StableHlo.ternary c a b y f h₀ h₁ h₂ h₃) fun _ => .ret (⟨⟩ : PUnit)) lo (num y + 1)
      fun W => W (Proc.devRef .tc y) = f (W (Proc.devRef .tc c)) (W (Proc.devRef .tc a)) (W (Proc.devRef .tc b)) :=
  Block.one (step_ternary _ _ _ _ _ hc ha hb) hk fun W h => by
    have h := congrFun h (Proc.devRef .tc y)
    rw [ternary_result'] at h
    exact h.symm

end Cert.HostLine
-- ==== Proof.RefRounds.lean ====
/-
  The block function in the host's operations, on arrays: a round is nine operations, an injection of key words seven. Each
  lemma takes the operations' equations, in order, off the front of a conjunction and says what they do to the pair of words
  at every index, leaving the rest.
-/
module

public import proofs.«01_k».proof.Proof.Words

@[expose] public section

noncomputable section

namespace Cert.Words

open Idealize.ShloMosaic

variable {s z k : Shape} {rest : Prop}

/-- A round: the nine operations' equations give `mix r` at every index. -/
theorem round_host {p : s.Idx → Pair} {dz : Fin z.rank → Fin s.rank} {hz : z.BroadcastsInDim s dz} (r : Nat)
    {x0 x1 y0 b₁ l b₂ t w y1 : IVec s 32} {c₁ c₂ : IVec z 32} (hr : 0 < r ∧ r < 32) (hp : ∀ i, (x0 i, x1 i) = p i)
    (h : y0 = addi x0 x1 ∧ c₁ = constantI z 32 (BitVec.ofNat 32 r) ∧ b₁ = broadcastInDim s dz hz c₁ ∧ l = Host.shli x1 b₁
      ∧ c₂ = constantI z 32 (BitVec.ofNat 32 (32 - r)) ∧ b₂ = broadcastInDim s dz hz c₂ ∧ t = Host.shrui x1 b₂
      ∧ w = ori l t ∧ y1 = xori y0 w ∧ rest) :
    (∀ i, (y0 i, y1 i) = mix r (p i)) ∧ rest := by
  obtain ⟨rfl, rfl, rfl, rfl, rfl, rfl, rfl, rfl, rfl, h⟩ := h
  refine ⟨fun i => ?_, h⟩
  rw [← hp i]
  show (_, IntOp.xori _ (IntOp.ori (IntOp.shli .host (x1 i) (BitVec.ofNat 32 r))
    (IntOp.shrui .host (x1 i) (BitVec.ofNat 32 (32 - r))))) = _
  rw [shli_lit _ _ _ hr.2, shrui_lit _ _ _ (by omega)]
  rfl

/-- An injection: the seven operations' equations give `inject` of the key words the arrays `ka kb` broadcast to an index. -/
theorem inject_host {p : s.Idx → Pair} {dz : Fin z.rank → Fin s.rank} {hz : z.BroadcastsInDim s dz}
    {dk : Fin k.rank → Fin s.rank} {hk : k.BroadcastsInDim s dk} (n : Nat) {ka kb : IVec k 32}
    {x0 x1 a y0 b t cb y1 : IVec s 32} {c : IVec z 32} (hp : ∀ i, (x0 i, x1 i) = p i)
    (h : a = broadcastInDim s dk hk ka ∧ y0 = addi x0 a ∧ b = broadcastInDim s dk hk kb ∧ t = addi x1 b
      ∧ c = constantI z 32 (BitVec.ofNat 32 n) ∧ cb = broadcastInDim s dz hz c ∧ y1 = addi t cb ∧ rest) :
    (∀ i, (y0 i, y1 i) = inject (broadcastInDim s dk hk ka i) (broadcastInDim s dk hk kb i) n (p i)) ∧ rest := by
  obtain ⟨rfl, rfl, rfl, rfl, rfl, rfl, rfl, h⟩ := h
  refine ⟨fun i => ?_, h⟩
  rw [← hp i]
  rfl

/-- The twenty rounds are the block function once the key words and the starting pair are its. -/
theorem block_of {A B C X Y a b x y : BitVec 32} (hA : A = a) (hB : B = b) (hC : C = third a b) (hX : X = x + a)
    (hY : Y = y + b) : twenty A B C (X, Y) = block a b x y := by
  subst hA hB hC hX hY
  rfl

end Cert.Words

end
-- ==== Proof.RefThreefry.lean ====
/-
  The reference's two calls of the threefry block function, one per use: on the examples' ids (giving each example its key) and
  on the positions of an example (giving the random words). Each is a block of host operations whose two results hold, at every
  index, the block function of the key words and the counter words there.
-/
module

public import proofs.«01_k».proof.Proof.HostLine
public import Idealize.ShloMosaic.PureOps.Ideal
public import proofs.«01_k».proof.Proof.RefRounds
public import proofs.«01_k».proof.Proof.Gen.ReferenceIdeal

@[expose] public section

set_option maxRecDepth 8192

noncomputable section

namespace Cert.ReferenceIdeal.Value

open Idealize.SL.Sem Idealize.ShloMosaic Idealize.ShloMosaic.StableHlo Idealize.ShloMosaic.TcCoe
open Cert.ReferenceIdeal Cert.ReferenceIdeal.Gen Cert.HostLine Cert.Words

/-- The one element of a scalar array. -/
def word (v : IVec S_ 32) : BitVec 32 := v fun a => a.elim0

/-- Broadcasting a scalar puts its element everywhere. -/
theorem broadcast_word {t : Shape} (d : Fin S_.rank → Fin t.rank) (h : S_.BroadcastsInDim t d) (v : IVec S_ 32) (i : t.Idx) :
    broadcastInDim t d h v i = word v := congrArg v (funext fun a => a.elim0)

/-- On the ids: with key words `a b` (scalars) and counters `x y`, the results are the block function. -/
theorem ids_block : Block (fn_threefry2x32.body (F := Ideal) main_call0.v8 main_call0.v10 main_call0.v11 main_call0.v12
      main_call0.call0) 29 251 fun W => ∀ i : S4096x1.Idx,
    (val W main_call0.call0.v171 i, val W main_call0.call0.v175 i)
      = block (word (val W main_call0.v8)) (word (val W main_call0.v10)) (val W main_call0.v11 i) (val W main_call0.v12 i) := by
  apply Block.weaken
  · unfold fn_threefry2x32.body fn_threefry2x32.body_part0 fn_threefry2x32.body_part1 fn_threefry2x32.body_part2
      fn_threefry2x32.body_part3
    repeat' with_reducible first
      | apply Block.bind
      | apply Block.nil
      | apply Block.nullary
      | apply Block.unary
      | apply Block.binary
    all_goals first | exact le_rfl | decide
  · decide
  · intro W h
    simp only [and_assoc] at h
    obtain ⟨e₀, ec, e₁, e₂, e₃, e₄, e₅, h⟩ := h
    have hp := fun i : S4096x1.Idx => Eq.refl (val W main_call0.call0.v3 i, val W main_call0.call0.v5 i)
    iterate 4 obtain ⟨hp, h⟩ := round_host _ (by decide) hp h
    obtain ⟨hp, h⟩ := inject_host _ hp h
    iterate 4 obtain ⟨hp, h⟩ := round_host _ (by decide) hp h
    obtain ⟨hp, h⟩ := inject_host _ hp h
    iterate 4 obtain ⟨hp, h⟩ := round_host _ (by decide) hp h
    obtain ⟨hp, h⟩ := inject_host _ hp h
    iterate 4 obtain ⟨hp, h⟩ := round_host _ (by decide) hp h
    obtain ⟨hp, h⟩ := inject_host _ hp h
    iterate 4 obtain ⟨hp, h⟩ := round_host _ (by decide) hp h
    obtain ⟨hp, h⟩ := inject_host _ hp h
    intro i
    refine (hp i).trans (block_of (broadcast_word _ _ _ _) (broadcast_word _ _ _ _)
      ((broadcast_word _ _ _ _).trans ((congrArg word (e₁.trans (congrArg₂ xori e₀ ec))).trans rfl)) ?_ ?_)
    · exact (congrFun e₃ i).trans (congrArg (_ + ·) ((congrFun e₂ i).trans (broadcast_word _ _ _ _)))
    · exact (congrFun e₅ i).trans (congrArg (_ + ·) ((congrFun e₄ i).trans (broadcast_word _ _ _ _)))

/-- On the positions: with key words `a b` per example and counters `x y` per position, the results are the block function. -/
theorem positions_block : Block (fn_threefry2x32_0.body (F := Ideal) main_call1.v25 main_call1.v26 main_call1.v23 main_call1.v24
      main_call1.call0) 285 510 fun W => ∀ i : S4096x13x8x8.Idx,
    (val W main_call1.call0.v174 i, val W main_call1.call0.v178 i)
      = block (broadcastInDim S4096x13x8x8 ![0, 1, 2, 3] bcast_S4096x1x1x1_S4096x13x8x8_0_1_2_3 (val W main_call1.v25) i)
          (broadcastInDim S4096x13x8x8 ![0, 1, 2, 3] bcast_S4096x1x1x1_S4096x13x8x8_0_1_2_3 (val W main_call1.v26) i)
          (broadcastInDim S4096x13x8x8 ![0, 1, 2, 3] bcast_S1x13x8x8_S4096x13x8x8_0_1_2_3 (val W main_call1.v23) i)
          (broadcastInDim S4096x13x8x8 ![0, 1, 2, 3] bcast_S1x13x8x8_S4096x13x8x8_0_1_2_3 (val W main_call1.v24) i) := by
  apply Block.weaken
  · unfold fn_threefry2x32_0.body fn_threefry2x32_0.body_part0 fn_threefry2x32_0.body_part1 fn_threefry2x32_0.body_part2
      fn_threefry2x32_0.body_part3
    repeat' with_reducible first
      | apply Block.bind
      | apply Block.nil
      | apply Block.nullary
      | apply Block.unary
      | apply Block.binary
    all_goals first | exact le_rfl | decide
  · decide
  · intro W h
    simp only [and_assoc] at h
    obtain ⟨e₀, ec, eb, e₁, e₂, e₃, e₄, e₅, e₆, e₇, h⟩ := h
    have hp := fun i : S4096x13x8x8.Idx => Eq.refl (val W main_call1.call0.v5 i, val W main_call1.call0.v8 i)
    iterate 4 obtain ⟨hp, h⟩ := round_host _ (by decide) hp h
    obtain ⟨hp, h⟩ := inject_host _ hp h
    iterate 4 obtain ⟨hp, h⟩ := round_host _ (by decide) hp h
    obtain ⟨hp, h⟩ := inject_host _ hp h
    iterate 4 obtain ⟨hp, h⟩ := round_host _ (by decide) hp h
    obtain ⟨hp, h⟩ := inject_host _ hp h
    iterate 4 obtain ⟨hp, h⟩ := round_host _ (by decide) hp h
    obtain ⟨hp, h⟩ := inject_host _ hp h
    iterate 4 obtain ⟨hp, h⟩ := round_host _ (by decide) hp h
    obtain ⟨hp, h⟩ := inject_host _ hp h
    intro i
    refine (hp i).trans (block_of rfl rfl ?_ ?_ ?_)
    · exact congrArg (fun v : IVec S4096x1x1x1 32 => broadcastInDim S4096x13x8x8 ![0, 1, 2, 3]
        bcast_S4096x1x1x1_S4096x13x8x8_0_1_2_3 v i)
        (e₁.trans (congrArg₂ xori e₀ (eb.trans (congrArg (broadcastInDim S4096x1x1x1 ![] bcast_S_S4096x1x1x1) ec))))
    · exact (congrFun e₄ i).trans (congrArg₂ (· + ·) (congrFun e₂ i) (congrFun e₃ i))
    · exact (congrFun e₇ i).trans (congrArg₂ (· + ·) (congrFun e₅ i) (congrFun e₆ i))

end Cert.ReferenceIdeal.Value

end
-- ==== Proof.RefKeys.lean ====
/-
  The reference's folding of the examples' ids into the seed's key: the two words at row `n` of its result are the block function
  of the seed's key at counter `(0, id)`.
-/
module

public import proofs.«01_k».proof.Proof.RefThreefry
public import Idealize.ShloMosaic.Lib.Pipeline.Value
public import Idealize.ShloMosaic.Lib.ValueIdx

@[expose] public section

set_option maxRecDepth 8192

noncomputable section

namespace Cert.ReferenceIdeal.Value

open Idealize.SL.Sem Idealize.ShloMosaic Idealize.ShloMosaic.StableHlo Idealize.ShloMosaic.TcCoe Idealize.ShloMosaic.ValueIdx
open Cert.ReferenceIdeal Cert.ReferenceIdeal.Gen Cert.HostLine Cert.Words

/-- Shifting a 32-bit word right by 32 places leaves zero. -/
theorem shrui_32 (x : BitVec 32) : IntOp.shrui .host x 32#32 = 0#32 := by
  unfold IntOp.shrui
  rw [if_neg (by decide)]
  rfl

/-- And-ing with all ones changes nothing. -/
theorem andi_ones (x : BitVec 32) : IntOp.andi x 4294967295#32 = x := by
  show x &&& BitVec.allOnes 32 = x
  exact BitVec.and_allOnes

/-- The key's word `k`, sliced off and reshaped to a scalar. -/
theorem key_word {k : IVec S2 32} {s : IVec S1 32} {v : IVec S_ 32} (c : Fin 2) (off : Fin S2.rank → Nat) (hc : off 0 = c.val) {h h'}
    (e : s = extractStridedSlice S1 off k h) (e' : v = shapeCast S_ s h') : word v = k (ix1 c) := by
  subst e e'
  refine (shapeCast_apply _ _ _ (ix1 0) (by rfl)).trans (extractStridedSlice_apply _ _ _ _ (ix1 c) fun a => ?_)
  match a with
  | ⟨0, _⟩ => exact (Nat.add_zero _).trans hc |>.symm

/-- The key of each example: row `n` holds the block function of the given key at the counter `(0, id n)`. -/
theorem fold_in_block : Block (fn_threefry_fold_in.body (F := Ideal) (.of main_v6) (.of main_v7) main_call0) 14 252 fun W =>
    ∀ n : Fin 4096, (val W main_call0.v14 (ix2 n 0), val W main_call0.v14 (ix2 n 1))
      = block (val W (TRef.of main_v6 : TRef sig ⟨S2, .i32⟩) (ix1 0)) (val W (TRef.of main_v6 : TRef sig ⟨S2, .i32⟩) (ix1 1)) 0#32
          (val W (TRef.of main_v7 : TRef sig ⟨S4096, .i32⟩) (ix1 n)) := by
  apply Block.weaken
  · unfold fn_threefry_fold_in.body
    repeat' with_reducible first
      | apply Block.bind
      | apply Block.nil
      | apply Block.nullary
      | apply Block.unary
      | apply Block.binary
      | apply Block.reshape
      | apply Block.start ids_block
    all_goals first | exact le_rfl | decide
  · decide
  · intro W h
    simp only [and_assoc] at h
    obtain ⟨ec, e₀, e₁, e₂, ec₀, e₃, e₄, e₅, e₆, e₇, e₈, e₉, e₁₀, e₁₁, e₁₂, hb, e₁₄, -⟩ := h
    intro n
    have hx : val W main_call0.v11 (ix2 n 0) = 0#32 := by
      refine (congrFun e₁₁ _).trans ((extractStridedSlice_apply _ _ _ _ (ix2 n 0) fun a => ?_).trans ?_)
      · match a with
        | ⟨0, _⟩ => exact (Nat.zero_add _).symm
        | ⟨1, _⟩ => rfl
      refine (congrFun e₆ _).trans ((concatenate_pair_apply_left (t := S4096x2) (s₁ := S4096x1) 1 _ _ _ _ rfl (ix2 n 0) fun b => ?_).trans ?_)
      · match b with
        | ⟨0, _⟩ => rfl
        | ⟨1, _⟩ => rfl
      refine (congrFun e₂ _).trans ((broadcastInDim_apply _ _ _ _ (ix1 n) fun a => ?_).trans ?_)
      · match a with
        | ⟨0, _⟩ => rfl
      refine (congrFun e₁ _).trans ?_
      refine (congrArg (IntOp.shrui .host _) ((congrFun e₀ _).trans ((broadcast_word _ _ _ _).trans (congrArg word ec)))).trans ?_
      exact shrui_32 _
    have hy : val W main_call0.v12 (ix2 n 0) = val W (TRef.of main_v7 : TRef sig ⟨S4096, .i32⟩) (ix1 n) := by
      refine (congrFun e₁₂ _).trans ((extractStridedSlice_apply _ _ _ _ (ix2 n 1) fun a => ?_).trans ?_)
      · match a with
        | ⟨0, _⟩ => exact (Nat.zero_add _).symm
        | ⟨1, _⟩ => rfl
      refine (congrFun e₆ _).trans ((concatenate_pair_apply_right (t := S4096x2) (s₁ := S4096x1) (s₂ := S4096x1) 1 _ _ _ _ rfl rfl
        (ix2 n 0) (fun b hb => ?_) rfl).trans ?_)
      · match b, hb with
        | ⟨0, _⟩, _ => rfl
        | ⟨1, _⟩, hb => exact absurd rfl hb
      refine (congrFun e₅ _).trans ((broadcastInDim_apply _ _ _ _ (ix1 n) fun a => ?_).trans ?_)
      · match a with
        | ⟨0, _⟩ => rfl
      refine (congrFun e₄ _).trans ?_
      refine (congrArg (IntOp.andi _) ((congrFun e₃ _).trans ((broadcast_word _ _ _ _).trans (congrArg word ec₀)))).trans ?_
      exact andi_ones _
    have hk₀ := key_word 0 _ rfl e₇ e₈
    have hk₁ := key_word 1 _ rfl e₉ e₁₀
    have l : val W main_call0.v14 (ix2 n 0) = val W main_call0.call0.v171 (ix2 n 0) := by
      refine (congrFun e₁₄ _).trans (concatenate_pair_apply_left (t := S4096x2) (s₁ := S4096x1) 1 _ _ _ _ rfl (ix2 n 0) fun b => ?_)
      match b with
      | ⟨0, _⟩ => rfl
      | ⟨1, _⟩ => rfl
    have r : val W main_call0.v14 (ix2 n 1) = val W main_call0.call0.v175 (ix2 n 0) := by
      refine (congrFun e₁₄ _).trans (concatenate_pair_apply_right (t := S4096x2) (s₁ := S4096x1) (s₂ := S4096x1) 1 _ _ _ _ rfl rfl
        (ix2 n 0) (fun b hb => ?_) rfl)
      match b, hb with
      | ⟨0, _⟩, _ => rfl
      | ⟨1, _⟩, hb => exact absurd rfl hb
    refine (Prod.ext l r : _ = (val W main_call0.call0.v171 (ix2 n 0), val W main_call0.call0.v175 (ix2 n 0))).trans ((hb (ix2 n 0)).trans ?_)
    rw [hx, hy]
    exact congrArg₂ (fun a b => block a b 0#32 _) hk₀ hk₁

end Cert.ReferenceIdeal.Value
-- ==== Proof.RefUnit.lean ====
/-
  The reference's uniform draw as arithmetic. The 23 random bits `m` are read as the significand of a number between 1 and 2, from
  which 1 is subtracted; the result is moved to the interval from 0 to 1 and compared with 0.1. Over the extended reals the
  comparison says `m` is below 838861.
-/
module

public import Idealize.ShloMosaic.Lib.IdealHost
public import Idealize.ShloMosaic.Lib.KernelVsHost

@[expose] public section

noncomputable section

namespace Cert.ReferenceIdeal.Unit

open Idealize.ShloMosaic

/-- The draw on the interval from `lo` to `hi`, of random bits `m`. -/
def unit (lo hi : EReal) (m : BitVec 32) : EReal :=
  max lo ((Ideal.ofBits .f32 (m ||| 1065353216#32) - Ideal.ofBits .f32 0x3F800000#32) * (hi - lo) + lo)

/-- Bits `m` of a significand, under the exponent of 1, are `1 + m / 2 ^ 23`. -/
theorem ofBits_significand {m : BitVec 32} (hm : m.toNat < 2 ^ 23) :
    Ideal.ofBits .f32 (m ||| 1065353216#32) = ((1 + m.toNat / 2 ^ 23 : ℝ) : EReal) := by
  have e : (m ||| 1065353216#32).toNat = 2 ^ 23 * 127 + m.toNat := by
    rw [BitVec.toNat_or, Nat.two_pow_add_eq_or_of_lt hm, Nat.or_comm]
    rfl
  have h₁ : ((m ||| 1065353216#32).extractLsb' 31 1) = 0#1 := by
    apply BitVec.eq_of_toNat_eq
    rw [BitVec.extractLsb'_toNat, e, Nat.shiftRight_eq_div_pow]
    show _ % 2 = 0
    omega
  have h₂ : ((m ||| 1065353216#32).extractLsb' 23 8).toNat = 127 := by
    rw [BitVec.extractLsb'_toNat, e, Nat.shiftRight_eq_div_pow]
    omega
  have h₃ : ((m ||| 1065353216#32).extractLsb' 0 23).toNat = m.toNat := by
    rw [BitVec.extractLsb'_toNat, e, Nat.shiftRight_eq_div_pow]
    omega
  unfold Ideal.ofBits Ideal.ieee
  dsimp only
  rw [h₁, h₂, h₃, if_neg (by decide), if_neg (by decide)]
  congr 1
  norm_num
  ring

/-- The single-precision number nearest 0.1. -/
theorem ofBits_tenth : Ideal.ofBits .f32 0x3DCCCCCD#32 = ((13421773 / 2 ^ 27 : ℝ) : EReal) := by
  simp [Ideal.ofBits, Ideal.ieee, -EReal.coe_mul]; norm_num

/-- The draw from 0 to 1 is below 0.1 when the bits are below 838861. -/
theorem unit_lt {m : BitVec 32} (hm : m.toNat < 2 ^ 23) :
    unit (Ideal.ofBits .f32 0x00000000#32) (Ideal.ofBits .f32 0x3F800000#32) m < Ideal.ofBits .f32 0x3DCCCCCD#32
      ↔ m.toNat < 838861 := by
  unfold unit
  rw [ofBits_significand hm, ofBits_tenth, Ideal.ofBits_one_f32, Ideal.ofBits_zero_f32, sub_zero, mul_one, add_zero,
    ← EReal.coe_one, ← EReal.coe_sub, ← EReal.coe_zero, max_lt_iff, EReal.coe_lt_coe_iff, EReal.coe_lt_coe_iff]
  have key : (1 + m.toNat / 2 ^ 23 - 1 : ℝ) < 13421773 / 2 ^ 27 ↔ (16 * m.toNat : ℝ) < 13421773 := by
    constructor <;> intro h <;> linarith
  rw [key, and_iff_right (by norm_num)]
  constructor
  · intro h
    have h : 16 * m.toNat < 13421773 := by exact_mod_cast h
    omega
  · intro h
    have h : 16 * m.toNat < 13421773 := by omega
    exact_mod_cast h

end Cert.ReferenceIdeal.Unit
-- ==== Proof.RefUniform.lean ====
/-
  The reference's uniform draw for every position of every example: the random bits are those of the example's key at the
  position's number, and the value is the draw of those bits.
-/
module

public import proofs.«01_k».proof.Proof.RefKeys
public import proofs.«01_k».proof.Proof.RefUnit

@[expose] public section

set_option maxRecDepth 8192

noncomputable section

namespace Cert.ReferenceIdeal.Value

open Idealize.SL.Sem Idealize.ShloMosaic Idealize.ShloMosaic.StableHlo Idealize.ShloMosaic.TcCoe Idealize.ShloMosaic.ValueIdx
open Cert.ReferenceIdeal Cert.ReferenceIdeal.Gen Cert.HostLine Cert.Words Cert.ReferenceIdeal.Unit

/-- The one element of a scalar array of any kind. -/
def scalar {α : Type} (v : S_.Idx → α) : α := v fun a => a.elim0

theorem broadcast_scalar {α : Type} {t : Shape} (d : Fin S_.rank → Fin t.rank) (h : S_.BroadcastsInDim t d) (v : S_.Idx → α) (i : t.Idx) :
    broadcastInDim t d h v i = scalar v := congrArg v (funext fun a => a.elim0)

/-- The number of position `(a, b, c)` of an example's 13 channels of 8 by 8. -/
def position (i : S13x8x8.Idx) : Nat := 64 * (i 0).val + 8 * (i 1).val + (i 2).val

theorem position_lt (i : S13x8x8.Idx) : position i < 832 := by
  have h₀ : (i 0).val < 13 := (i 0).isLt
  have h₁ : (i 1).val < 8 := (i 1).isLt
  have h₂ : (i 2).val < 8 := (i 2).isLt
  unfold position
  omega

/-- The 64-bit position count is the position. -/
theorem count_toNat (i : S13x8x8.Idx) :
    (64#64 * BitVec.ofNat 64 (i 0).val + 8#64 * BitVec.ofNat 64 (i 1).val + 1#64 * BitVec.ofNat 64 (i 2).val).toNat = position i := by
  have h₀ : (i 0).val < 13 := (i 0).isLt
  have h₁ : (i 1).val < 8 := (i 1).isLt
  have h₂ : (i 2).val < 8 := (i 2).isLt
  unfold position
  simp only [BitVec.toNat_add, BitVec.toNat_mul, BitVec.toNat_ofNat]
  omega

/-- The position within an example. -/
def inner (i : S4096x13x8x8.Idx) : S13x8x8.Idx := ix3 (i 1) (i 2) (i 3)

/-- The column of one key word, spread over an example's positions. -/
theorem key_column {k : IVec S4096x2 32} {s : IVec S4096x1 32} {r : IVec S4096 32} {b : IVec S4096x1x1x1 32} (c : Fin 2)
    (off : Fin S4096x2.rank → Nat) (h₀ : off 0 = 0) (h₁ : off 1 = c.val) {h h'}
    (e : s = extractStridedSlice S4096x1 off k h) (e' : r = shapeCast S4096 s h')
    (e'' : b = broadcastInDim S4096x1x1x1 ![0] bcast_S4096_S4096x1x1x1_0 r) (i : S4096x13x8x8.Idx) :
    broadcastInDim S4096x13x8x8 ![0, 1, 2, 3] bcast_S4096x1x1x1_S4096x13x8x8_0_1_2_3 b i = k (ix2 (i 0) c) := by
  subst e e' e''
  refine (broadcastInDim_apply _ _ _ _ (ix4 (i 0) 0 0 0) fun a => ?_).trans ?_
  · match a with
    | ⟨0, _⟩ => rfl
    | ⟨1, _⟩ => rfl
    | ⟨2, _⟩ => rfl
    | ⟨3, _⟩ => rfl
  refine (broadcastInDim_apply _ _ _ _ (ix1 (i 0)) fun a => ?_).trans ?_
  · match a with
    | ⟨0, _⟩ => rfl
  refine (shapeCast_apply _ _ _ (ix2 (i 0) 0) ?_).trans (extractStridedSlice_apply _ _ _ _ (ix2 (i 0) c) fun a => ?_)
  · refine (Shape.rowMajor_val_two _).trans (Eq.trans ?_ (Shape.rowMajor_val_one _).symm)
    show (i 0).val * 1 + 0 = (i 0).val
    omega
  · match a with
    | ⟨0, _⟩ => show (i 0).val = off 0 + (i 0).val; omega
    | ⟨1, _⟩ => show c.val = off 1 + 0; omega

/-- One counter word, spread over the examples. -/
theorem counter_row {v : IVec S13x8x8 32} {b : IVec S1x13x8x8 32}
    (e : b = broadcastInDim S1x13x8x8 ![1, 2, 3] bcast_S13x8x8_S1x13x8x8_1_2_3 v) (i : S4096x13x8x8.Idx) :
    broadcastInDim S4096x13x8x8 ![0, 1, 2, 3] bcast_S1x13x8x8_S4096x13x8x8_0_1_2_3 b i = v (inner i) := by
  subst e
  refine (broadcastInDim_apply _ _ _ _ (ix4 0 (i 1) (i 2) (i 3)) fun a => ?_).trans ?_
  · match a with
    | ⟨0, _⟩ => rfl
    | ⟨1, _⟩ => rfl
    | ⟨2, _⟩ => rfl
    | ⟨3, _⟩ => rfl
  refine broadcastInDim_apply _ _ _ _ (inner i) fun a => ?_
  match a with
  | ⟨0, _⟩ => rfl
  | ⟨1, _⟩ => rfl
  | ⟨2, _⟩ => rfl

/-- A one-element array spread over everything. -/
theorem spread {x : FVec Ideal S1x1x1 .f32} {y : FVec Ideal S1x1x1x1 .f32} {c : EReal}
    (e : y = broadcastInDim S1x1x1x1 ![1, 2, 3] bcast_S1x1x1_S1x1x1x1_1_2_3 x) (hx : ∀ i, x i = c) (i : S4096x13x8x8.Idx) :
    broadcastInDim S4096x13x8x8 ![0, 1, 2, 3] bcast_S1x1x1x1_S4096x13x8x8_0_1_2_3 y i = c := by
  subst e
  exact hx _

/-- The draws: from the keys' rows and the interval's ends. -/
theorem uniform_block : Block (fn_uniform.body (F := Ideal) (.of main_v8) (.of main_cst) (.of main_cst_2) main_call1) 254 531
    fun W => ∀ i : S4096x13x8x8.Idx, val W main_call1.v45 i
      = unit (scalar (val W (TRef.of main_cst : TRef sig ⟨S_, .f32⟩))) (scalar (val W (TRef.of main_cst_2 : TRef sig ⟨S_, .f32⟩)))
          (draw (val W (TRef.of main_v8 : TRef sig ⟨S4096x2, .i32⟩) (ix2 (i 0) 0), val W (TRef.of main_v8 : TRef sig ⟨S4096x2, .i32⟩) (ix2 (i 0) 1))
            (BitVec.ofNat 32 (position (inner i)))) := by
  apply Block.weaken
  · unfold fn_uniform.body
    repeat' with_reducible first
      | apply Block.bind
      | apply Block.nil
      | apply Block.nullary
      | apply Block.unary
      | apply Block.binary
      | apply Block.reshape
      | apply Block.start positions_block
    all_goals first | exact le_rfl | decide
  · decide
  · intro W h
    simp only [and_assoc] at h
    obtain ⟨e₀, e₁, e₂, e₃, e₄, e₅, e₆, e₇, e₈, e₉, e₁₀, ec, e₁₁, e₁₂, ec₀, e₁₃, e₁₄, ec₁, e₁₅, e₁₆, e₁₇, e₁₈, ec₂, e₁₉, e₂₀, e₂₁,
      e₂₂, e₂₃, e₂₄, e₂₅, e₂₆, hb, e₂₈, ec₃, e₂₉, e₃₀, ec₄, e₃₁, e₃₂, e₃₃, es, e₃₄, e₃₅, e₃₆, e₃₇, e₃₈, e₃₉, e₄₀, e₄₁, e₄₂, e₄₃, e₄₄,
      e₄₅, -⟩ := h
    intro i
    have hk₀ := key_column 0 ![0, 0] rfl rfl e₄ e₅ e₂₅ i
    have hk₁ := key_column 1 ![0, 1] rfl rfl e₆ e₇ e₂₆ i
    have hn : ∀ j : S13x8x8.Idx, (val W main_call1.v18 j).toNat = position j := fun j => by
      refine (congrArg BitVec.toNat ?_).trans (count_toNat j)
      refine (congrFun e₁₈ j).trans (congrArg₂ (· + ·) ((congrFun e₁₇ j).trans (congrArg₂ (· + ·) ?_ ?_)) ?_)
      · exact (congrFun e₁₂ j).trans (congrArg₂ (· * ·) ((congrFun e₁₁ j).trans (congrFun ec _)) (congrFun e₈ j))
      · exact (congrFun e₁₄ j).trans (congrArg₂ (· * ·) ((congrFun e₁₃ j).trans (congrFun ec₀ _)) (congrFun e₉ j))
      · exact (congrFun e₁₆ j).trans (congrArg₂ (· * ·) ((congrFun e₁₅ j).trans (congrFun ec₁ _)) (congrFun e₁₀ j))
    have hx : val W main_call1.v22 (inner i) = 0#32 := by
      refine (congrFun e₂₂ _).trans ?_
      show (val W main_call1.v20 (inner i)).setWidth 32 = _
      have h20 : val W main_call1.v20 (inner i) = 0#64 := by
        refine (congrFun e₂₀ _).trans ((congrArg (IntOp.shrui .host _) ((congrFun e₁₉ _).trans (congrFun ec₂ _) : _ = 32#64)).trans ?_)
        have h := hn (inner i)
        have hl := position_lt (inner i)
        apply BitVec.eq_of_toNat_eq
        unfold IntOp.shrui
        rw [if_pos (by decide)]
        show (val W main_call1.v18 (inner i) >>> 32#64).toNat = _
        rw [BitVec.ushiftRight_eq', BitVec.toNat_ushiftRight, h, Nat.shiftRight_eq_div_pow]
        show position (inner i) / 2 ^ 32 = 0
        omega
      rw [h20]
      rfl
    have hy : val W main_call1.v21 (inner i) = BitVec.ofNat 32 (position (inner i)) := by
      refine (congrFun e₂₁ _).trans ?_
      apply BitVec.eq_of_toNat_eq
      show ((val W main_call1.v18 (inner i)).setWidth 32).toNat = _
      rw [BitVec.toNat_setWidth, hn, BitVec.toNat_ofNat]
    have hp := (hb i).trans (congr (congr (congrArg₂ block hk₀ hk₁) ((counter_row e₂₃ i).trans hx)) ((counter_row e₂₄ i).trans hy))
    have hm : val W main_call1.v30 i = draw (val W (TRef.of main_v8 : TRef sig ⟨S4096x2, .i32⟩) (ix2 (i 0) 0),
        val W (TRef.of main_v8 : TRef sig ⟨S4096x2, .i32⟩) (ix2 (i 0) 1)) (BitVec.ofNat 32 (position (inner i))) := by
      refine (congrFun e₃₀ i).trans (((congrArg (IntOp.shrui .host _) ((congrFun e₂₉ _).trans (congrFun ec₃ _))).trans
        (shrui_lit .host _ 9 (by decide))).trans ?_)
      rw [show val W main_call1.v28 i = _ from (congrFun e₂₈ i).trans (congrArg (fun p : Pair => p.1 ^^^ p.2) hp)]
      rfl
    have hlo : ∀ j, val W main_call1.v2 j = scalar (val W (TRef.of main_cst : TRef sig ⟨S_, .f32⟩)) := fun j =>
      (congrFun e₂ j).trans ((broadcast_scalar _ _ _ _).trans (congrArg scalar e₀))
    have hhi : ∀ j, val W main_call1.v3 j = scalar (val W (TRef.of main_cst_2 : TRef sig ⟨S_, .f32⟩)) := fun j =>
      (congrFun e₃ j).trans ((broadcast_scalar _ _ _ _).trans (congrArg scalar e₁))
    have hd : ∀ j, val W main_call1.v36 j = (scalar (val W (TRef.of main_cst_2 : TRef sig ⟨S_, .f32⟩)) : EReal)
        - (scalar (val W (TRef.of main_cst : TRef sig ⟨S_, .f32⟩)) : EReal) := fun j =>
      (congrFun e₃₆ j).trans (congrArg₂ (fun a b : EReal => a - b) (hhi j) (hlo j))
    refine (congrFun e₄₅ i).trans (congrArg₂ (fun a b : EReal => max a b) ((congrFun e₄₄ i).trans (spread e₄₃ hlo i))
      ((congrFun e₄₂ i).trans (congrArg₂ (fun a b : EReal => a + b) ?_ ((congrFun e₄₁ i).trans (spread e₄₀ hlo i)))))
    refine (congrFun e₃₉ i).trans (congrArg₂ (fun a b : EReal => a * b) ?_ ((congrFun e₃₈ i).trans (spread e₃₇ hd i)))
    refine (congrFun e₃₅ i).trans (congrArg₂ (fun a b : EReal => a - b) ?_ ((congrFun e₃₄ i).trans (congrFun es _)))
    refine (congrFun e₃₃ i).trans (congrArg (Ideal.ofBits .f32) ((congrFun e₃₂ i).trans ?_))
    exact congrArg₂ (fun a b : BitVec 32 => a ||| b) hm ((congrFun e₃₁ i).trans (congrFun ec₄ _))

end Cert.ReferenceIdeal.Value
-- ==== Proof.RefMain.lean ====
/-
  The reference program as one block of host operations: what its result buffer holds at the end, in terms of what its arguments
  hold then. The mask of every example is the 0/1 array of its kept positions; it is scattered into the table at the examples' ids
  and gathered back from there, and the result is the input times what was gathered.
-/
module

public import proofs.«01_k».proof.Proof.RefUniform

@[expose] public section

set_option maxRecDepth 8192

noncomputable section

namespace Cert.ReferenceIdeal.Value

open Idealize.SL.Sem Idealize.ShloMosaic Idealize.ShloMosaic.StableHlo Idealize.ShloMosaic.TcCoe Idealize.ShloMosaic.ValueIdx
open Cert.ReferenceIdeal Cert.ReferenceIdeal.Gen Cert.HostLine Cert.Words Cert.ReferenceIdeal.Unit

/-- The number of feature `(c, h, w)` of an example. -/
def feature (i : S4096x16x8x8.Idx) : Nat := 64 * (i 1).val + 8 * (i 2).val + (i 3).val

open Classical in
/-- The mask of the examples of given ids: 1 at the kept features, 0 at the others. -/
def mask (ids : IVec S4096 32) (i : S4096x16x8x8.Idx) : EReal := if kept (ids (ix1 (i 0))) (feature i) then 1 else 0

theorem mask_pos {ids : IVec S4096 32} {i : S4096x16x8x8.Idx} (h : kept (ids (ix1 (i 0))) (feature i)) : mask ids i = 1 := by
  unfold mask
  rw [if_pos h]

theorem mask_of {ids : IVec S4096 32} {i : S4096x16x8x8.Idx} {p : Prop} [Decidable p] (h : p ↔ kept (ids (ix1 (i 0))) (feature i)) :
    (if p then (1 : EReal) else 0) = mask ids i := by
  unfold mask
  by_cases hp : p
  · rw [if_pos hp, if_pos (h.1 hp)]
  · rw [if_neg hp, if_neg fun q => hp (h.2 q)]

/-- The index column `I` names the ids' rows where the ids are not negative. -/
def Names (I : IVec S4096x1 32) (ids : IVec S4096 32) : Prop :=
  ∀ n : Fin 4096, 0 ≤ (ids (ix1 n)).toInt → I (ix2 n 0) = ids (ix1 n)

/-- The program's choice between an id and the id wrapped round, spread to a column, names the ids. -/
theorem names_of {ids z s v : IVec S4096 32} {c : IVec S4096 1} {I : IVec S4096x1 32}
    (hz : ∀ i, z i = 0#32) (hc : c = cmpi .slt ids z) (hv : v = select c s ids)
    (hI : I = broadcastInDim S4096x1 ![0] bcast_S4096_S4096x1_0 v) : Names I ids := by
  intro n hn
  refine (congrFun hI _).trans ((broadcastInDim_apply _ _ _ _ (ix1 n) fun a => ?_).trans ?_)
  · match a with
    | ⟨0, _⟩ => rfl
  refine (congrFun hv _).trans ?_
  show (if c (ix1 n) = 1 then s (ix1 n) else ids (ix1 n)) = _
  have h : c (ix1 n) = BitVec.ofBool ((ids (ix1 n)).slt (z (ix1 n))) := congrFun hc _
  rw [h, hz, if_neg]
  have e : (ids (ix1 n)).slt 0#32 = false := by
    rw [BitVec.slt]
    simpa using hn
  rw [e]
  decide

theorem draw_lt (k : Pair) (j : BitVec 32) : (draw k j).toNat < 2 ^ 23 := by
  unfold draw
  rw [BitVec.toNat_ushiftRight, Nat.shiftRight_eq_div_pow]
  have := ((block k.1 k.2 0#32 j).1 ^^^ (block k.1 k.2 0#32 j).2).isLt
  omega

/-- The comparison's bit as a float. -/
theorem uitofp_lt (a b : EReal) [Decidable (a < b)] :
    (FloatOps.uitofp (F := Ideal) .f32 (FloatOps.cmpf (F := Ideal) (φ := .f32) .olt a b) : EReal) = if a < b then 1 else 0 := by
  show (((Ideal.cmp .olt a b).toNat : ℝ) : EReal) = _
  unfold Ideal.cmp
  by_cases h : a < b <;> simp [h]

theorem main_block (d : Dev nD) : Block (main (F := Ideal) d) 3 558 fun W => ∃ I J : IVec S4096x1 32,
    Names I (val W (TRef.of main_arg1 : TRef sig ⟨S4096, .i32⟩)) ∧ Names J (val W (TRef.of main_arg1 : TRef sig ⟨S4096, .i32⟩)) ∧
    val W (TRef.of main_v30 : TRef sig ⟨S4096x16x8x8, .f32⟩) = (mulf (val W (TRef.of main_arg0 : TRef sig ⟨S4096x16x8x8, .f32⟩))
      (Host.gather gather_S60000x16x8x8_S4096x1_S4096x16x8x8_123_0_n_n_0_1_11688
        (Host.scatter scatter_S60000x16x8x8_S4096x1_S4096x16x8x8_123_0_0_1 (fun _ b => b)
          (val W (TRef.of main_arg2 : TRef sig ⟨S60000x16x8x8, .f32⟩)) I
          (mask (val W (TRef.of main_arg1 : TRef sig ⟨S4096, .i32⟩)))) J) : FVec Ideal S4096x16x8x8 .f32) := by
  apply Block.weaken
  · unfold main
    repeat' with_reducible first
      | apply Block.bind
      | apply Block.nil
      | apply Block.start fold_in_block
      | apply Block.start uniform_block
      | apply Block.nullaryAt
      | apply Block.unaryAt
      | apply Block.binaryAt
      | apply Block.ternaryAt
    all_goals first | exact le_rfl | decide
  · decide
  · intro W h
    simp only [and_assoc] at h
    obtain ⟨ec, ec₀, e₀, e₁, e₂, ec₁, e₃, e₄, e₅, e₆, e₇, hkey, es, es₂, hdraw, es₃, e₁₀, e₁₁, e₁₂, es₄, e₁₃, e₁₄, e₁₅,
      ec₅, e₁₆, e₁₇, ec₆, e₁₈, e₁₉, e₂₀, e₂₁, e₂₂, ec₇, e₂₃, e₂₄, ec₈, e₂₅, e₂₆, e₂₇, e₂₈, e₂₉, e₃₀, -⟩ := h
    refine ⟨W (Proc.devRef .tc main_v21), W (Proc.devRef .tc main_v28), names_of (fun i => (congrFun e₁₆ i).trans (congrFun ec₅ _)) e₁₇ e₂₀ e₂₁,
      names_of (fun i => (congrFun e₂₃ i).trans (congrFun ec₇ _)) e₂₄ e₂₇ e₂₈, ?_⟩
    refine e₃₀.trans (congrArg (mulf (F := Ideal) (φ := .f32) _) (e₂₉.trans (congrArg (fun x => Host.gather _ x _) (e₂₂.trans
      (congrArg (Host.scatter _ _ _ _) ?_)))))
    refine funext (α := S4096x16x8x8.Idx) fun i => ?_
    refine (congrFun e₁₅ i).trans ?_
    have h₁ : (i 1).val < 16 := (i 1).isLt
    have h₂ : (i 2).val < 8 := (i 2).isLt
    have h₃ : (i 3).val < 8 := (i 3).isLt
    by_cases hc : (i 1).val < 3
    · refine (concatenate_pair_apply_left (t := S4096x16x8x8) (s₁ := S4096x3x8x8) 1 _ _ _ _ rfl (ix4 (i 0) ⟨(i 1).val, hc⟩ (i 2) (i 3))
        fun b => ?_).trans ?_
      · match b with
        | ⟨0, _⟩ => rfl
        | ⟨1, _⟩ => rfl
        | ⟨2, _⟩ => rfl
        | ⟨3, _⟩ => rfl
      have hk : feature i < 192 := by unfold feature; omega
      exact (congrFun e₁₄ _).trans ((congrFun e₁₃ _).trans ((congrFun es₄ _).trans (Ideal.ofBits_one_f32.trans (mask_pos (Or.inl hk)).symm)))
    · let k : S4096x13x8x8.Idx := ix4 (i 0) ⟨(i 1).val - 3, by omega⟩ (i 2) (i 3)
      refine (concatenate_pair_apply_right (t := S4096x16x8x8) (s₁ := S4096x3x8x8) (s₂ := S4096x13x8x8) 1 _ _ _ _ rfl rfl k
        (fun b hb => ?_) (show (i 1).val - 3 + 3 = (i 1).val by omega)).trans ?_
      · match b, hb with
        | ⟨0, _⟩, _ => rfl
        | ⟨1, _⟩, hb => exact absurd rfl hb
        | ⟨2, _⟩, _ => rfl
        | ⟨3, _⟩, _ => rfl
      have hs₀ : W (Proc.devRef .tc main_v6) (ix1 0) = 0#32 := by
        refine (congrFun e₆ _).trans ((concatenate_pair_apply_left (t := S2) (s₁ := S1) 0 _ _ _ _ rfl (ix1 0) fun b => ?_).trans ?_)
        · match b with
          | ⟨0, _⟩ => rfl
        refine (congrFun e₂ _).trans ((congrFun e₁ _).trans ((congrFun e₀ _).trans ?_))
        exact (congrArg₂ (IntOp.shrui .host) (congrFun ec _) (congrFun ec₀ _)).trans (shrui_32 _)
      have hs₁ : W (Proc.devRef .tc main_v6) (ix1 1) = 101010#32 := by
        refine (congrFun e₆ _).trans ((concatenate_pair_apply_right (t := S2) (s₁ := S1) (s₂ := S1) 0 _ _ _ _ rfl rfl (ix1 0)
          (fun b hb => ?_) rfl).trans ?_)
        · match b, hb with
          | ⟨0, _⟩, hb => exact absurd rfl hb
        refine (congrFun e₅ _).trans ((congrFun e₄ _).trans ((congrFun e₃ _).trans ?_))
        exact (congrArg₂ IntOp.andi (congrFun ec _) (congrFun ec₁ _)).trans (andi_ones _)
      have hr := (hkey (i 0)).trans (show _ = rowKey (W (Proc.devRef .tc main_arg1) (ix1 (i 0))) from
        congr (congrArg₂ (fun a b => block a b 0#32) hs₀ hs₁) (congrFun e₇ _))
      have hv : W (Proc.devRef .tc main_v9) k = unit (Ideal.ofBits .f32 0x00000000#32) (Ideal.ofBits .f32 0x3F800000#32)
          (draw (rowKey (W (Proc.devRef .tc main_arg1) (ix1 (i 0)))) (BitVec.ofNat 32 (position (inner k)))) :=
        (hdraw k).trans (congr (congrArg₂ unit (congrFun es _) (congrFun es₂ _)) (congrArg (draw · _) hr))
      refine (congrFun e₁₂ k).trans ((congrArg (FloatOps.uitofp (F := Ideal) .f32) ((congrFun e₁₁ k).trans
        (congrArg₂ (FloatOps.cmpf (F := Ideal) (φ := .f32) .olt) hv ((congrFun e₁₀ k).trans (congrFun es₃ _))))).trans ?_)
      classical
      refine (uitofp_lt _ _).trans ?_
      have hf : position (inner k) = feature i - 192 := by
        show 64 * ((i 1).val - 3) + 8 * (i 2).val + (i 3).val = 64 * (i 1).val + 8 * (i 2).val + (i 3).val - 192
        omega
      have hn : ¬ feature i < 192 := by unfold feature; omega
      refine mask_of ((unit_lt (draw_lt _ _)).trans ?_)
      rw [hf]
      exact (or_iff_right hn).symm

end Cert.ReferenceIdeal.Value
-- ==== Proof.RefTable.lean ====
/-
  Scattering the masks into the table at the examples' ids and gathering them back, where every id is a row of the table: each
  example gets its own mask back. Two examples of one id write the same row, with the same mask, so it does not matter which
  of them wrote last.
-/
module

public import proofs.«01_k».proof.Proof.RefMain
public import Idealize.ShloMosaic.Lib.Routing.OpsSet

@[expose] public section

noncomputable section

namespace Cert.ReferenceIdeal.Value

open Idealize.SL.Sem Idealize.ShloMosaic Idealize.ShloMosaic.ValueIdx
open Cert.ReferenceIdeal Cert.ReferenceIdeal.Gen Cert.Words

/-- Every id is a row of the table. -/
def InTable (ids : IVec S4096 32) : Prop := ∀ n : Fin 4096, 0 ≤ (ids (ix1 n)).toInt ∧ (ids (ix1 n)).toInt < 60000

/-- The scatter's dimension numbers, and the gather's. -/
abbrev put := scatter_S60000x16x8x8_S4096x1_S4096x16x8x8_123_0_0_1
abbrev take := gather_S60000x16x8x8_S4096x1_S4096x16x8x8_123_0_n_n_0_1_11688

theorem put_start (I : IVec S4096x1 32) (k : S4096x16x8x8.Idx) : put.start k I 0 = (I (ix2 (k 0) 0)).toInt := by
  unfold ScatterDims.start
  rw [dif_pos (by decide)]
  refine congrArg (fun j => (I j).toInt) (funext fun b => Fin.ext ?_)
  match b with
  | ⟨0, _⟩ => rfl
  | ⟨1, _⟩ => rfl

/-- Update `k` covers row `id` of its example, at its own feature. -/
theorem put_at (I : IVec S4096x1 32) (k : S4096x16x8x8.Idx) (a : Fin S60000x16x8x8.rank) :
    put.start k I a + put.window k a = if a = 0 then (I (ix2 (k 0) 0)).toInt else ((k a).val : Int) := by
  match a with
  | ⟨0, _⟩ => exact (congrArg (· + ((0 : Nat) : Int)) (put_start I k)).trans (Int.add_zero _)
  | ⟨1, _⟩ => exact Int.zero_add _
  | ⟨2, _⟩ => exact Int.zero_add _
  | ⟨3, _⟩ => exact Int.zero_add _

/-- A row's element covered by an update: the example's id is the row, and the feature is the element's. -/
theorem of_lands {I : IVec S4096x1 32} {k : S4096x16x8x8.Idx} {x : S60000x16x8x8.Idx} (h : put.resultIdx? k I = some x)
    (a : Fin S60000x16x8x8.rank) : ((x a).val : Int) = if a = 0 then (I (ix2 (k 0) 0)).toInt else ((k a).val : Int) := by
  unfold ScatterDims.resultIdx? at h
  split at h
  · next hr =>
    rw [← Option.some.inj h, ← put_at I k a]
    exact Int.toNat_of_nonneg (hr a).1
  · cases h

/-- An update whose row is in the table lands there. -/
theorem lands {I : IVec S4096x1 32} {k : S4096x16x8x8.Idx} {x : S60000x16x8x8.Idx}
    (h : ∀ a : Fin S60000x16x8x8.rank, ((x a).val : Int) = if a = 0 then (I (ix2 (k 0) 0)).toInt else ((k a).val : Int)) :
    put.resultIdx? k I = some x := by
  have e : ∀ a, put.start k I a + put.window k a = ((x a).val : Int) := fun a => (put_at I k a).trans (h a).symm
  unfold ScatterDims.resultIdx?
  rw [dif_pos fun a => by rw [e a]; exact ⟨Int.natCast_nonneg _, Int.ofNat_lt.2 (x a).isLt⟩]
  refine congrArg some (funext fun a => Fin.ext ?_)
  show (put.start k I a + put.window k a).toNat = _
  rw [e a]
  rfl

theorem take_start (J : IVec S4096x1 32) (i : S4096x16x8x8.Idx) :
    take.start i J 0 = min (J (ix2 (i 0) 0)).toInt.toNat 59999 := by
  unfold GatherDims.start
  rw [dif_pos (by decide)]
  refine congrArg (fun j => min (J j).toInt.toNat 59999) (funext fun b => Fin.ext ?_)
  match b with
  | ⟨0, _⟩ => rfl
  | ⟨1, _⟩ => rfl

/-- The element of the table that result element `i` reads: row `id` of its example, where that is in the table. -/
theorem take_at {J : IVec S4096x1 32} {i : S4096x16x8x8.Idx} (h : 0 ≤ (J (ix2 (i 0) 0)).toInt ∧ (J (ix2 (i 0) 0)).toInt < 60000)
    (a : Fin S60000x16x8x8.rank) :
    (((take.operandIdx i J) a).val : Int) = if a = 0 then (J (ix2 (i 0) 0)).toInt else ((i a).val : Int) := by
  match a with
  | ⟨0, _⟩ =>
    show ((take.start i J 0 + 0 + 0 : Nat) : Int) = (J (ix2 (i 0) 0)).toInt
    rw [take_start]
    omega
  | ⟨1, _⟩ => exact congrArg Nat.cast (show 0 + 0 + (i 1).val = (i 1).val by omega)
  | ⟨2, _⟩ => exact congrArg Nat.cast (show 0 + 0 + (i 2).val = (i 2).val by omega)
  | ⟨3, _⟩ => exact congrArg Nat.cast (show 0 + 0 + (i 3).val = (i 3).val by omega)

/-- Every example gets its own mask back. -/
theorem gathered {ids : IVec S4096 32} (hids : InTable ids) {I J : IVec S4096x1 32} (hI : Names I ids) (hJ : Names J ids)
    (table : S60000x16x8x8.Idx → EReal) (i : S4096x16x8x8.Idx) :
    Host.gather take (Host.scatter put (fun _ b => b) table I (mask ids)) J i = mask ids i := by
  have eI : ∀ n : Fin 4096, I (ix2 n 0) = ids (ix1 n) := fun n => hI n (hids n).1
  have eJ : J (ix2 (i 0) 0) = ids (ix1 (i 0)) := hJ (i 0) (hids (i 0)).1
  have hx := take_at (J := J) (i := i) (by rw [eJ]; exact hids (i 0))
  unfold Host.gather
  refine Routing.scatter_set_hit put _ _ _ _ _ (fun k hk => ?_) i (lands fun a => ?_)
  · have h := fun a => (of_lands hk a).symm.trans (hx a)
    have h₀ : (I (ix2 (k 0) 0)).toInt = (J (ix2 (i 0) 0)).toInt := h 0
    have h₁ : ((k 1).val : Int) = ((i 1).val : Int) := h 1
    have h₂ : ((k 2).val : Int) = ((i 2).val : Int) := h 2
    have h₃ : ((k 3).val : Int) = ((i 3).val : Int) := h 3
    have hid : ids (ix1 (k 0)) = ids (ix1 (i 0)) := by
      have e := BitVec.eq_of_toInt_eq h₀
      rwa [eI (k 0), eJ] at e
    have hf : feature k = feature i := by
      unfold feature
      omega
    unfold mask
    rw [hid, hf]
  · rw [hx a, eI (i 0), eJ]

end Cert.ReferenceIdeal.Value
-- ==== Proof.RefRun.lean ====
/-
  The reference program's run: from any memory it ends, its arguments unchanged and every semaphore at zero, and its result
  is the input times the masks scattered into the table and gathered back.
-/
module

public import proofs.«01_k».proof.Proof.RefTable
public import Idealize.ShloMosaic.Lib.Claim
public import Idealize.ShloMosaic.Lib.Quiescent

@[expose] public section

set_option maxRecDepth 8192

noncomputable section

namespace Cert.ReferenceIdeal.Value

open Idealize.SL.Sem Idealize.ShloMosaic Idealize.ShloMosaic.StableHlo Idealize.ShloMosaic.TcCoe Idealize.ShloMosaic.ValueIdx
open Cert.ReferenceIdeal Cert.ReferenceIdeal.Gen Cert.HostLine Cert.Words

/-- What the arguments at the launch determine of the result. -/
def Result (X : FVec Ideal S4096x16x8x8 .f32) (ids : IVec S4096 32) (table : FVec Ideal S60000x16x8x8 .f32)
    (out : FVec Ideal S4096x16x8x8 .f32) : Prop :=
  ∃ I J : IVec S4096x1 32, Names I ids ∧ Names J ids ∧
    out = mulf X (Host.gather take (Host.scatter put (fun _ b => b) table I (mask ids)) J)

/-- With every id in the table, the result is the input times the masks. -/
theorem Result.eq {X : FVec Ideal S4096x16x8x8 .f32} {ids : IVec S4096 32} {table : FVec Ideal S60000x16x8x8 .f32}
    {out : FVec Ideal S4096x16x8x8 .f32} (h : Result X ids table out) (hids : InTable ids) (i : S4096x16x8x8.Idx) :
    out i = (X i : EReal) * mask ids i := by
  obtain ⟨I, J, hI, hJ, rfl⟩ := h
  exact congrArg (fun y : EReal => (X i : EReal) * y) (gathered hids hI hJ table i)

variable (m : (ℓ : Loc nD τ sig) → Buf (Elt Ideal) ℓ) (ρ : Dev nD → PrngReg)

/-- The run. -/
theorem run : θ_run (defs (F := Ideal)) (onTc (τ := τ) (main (F := Ideal))) ⟨m, fun _ => 0, ρ⟩ fun r => ∀ c : Dev nD,
    Result (m ((c.tc : Thread nD τ).loc main_arg0)) (m ((c.tc : Thread nD τ).loc main_arg1)) (m ((c.tc : Thread nD τ).loc main_arg2))
      (r.2.mem ((c.tc : Thread nD τ).loc main_v30))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  obtain ⟨ops, hmain, hline, hval⟩ := main_block (0 : Fin 1)
  refine θ_run_mono (run_hlo defs main (fun d => hmain) (by decide) (by decide) hline.within hline.fresh m ρ) fun r h c => ?_
  have a₀ := hline.below (launchContents m c) (r := main_arg0) (by decide)
  have a₁ := hline.below (launchContents m c) (r := main_arg1) (by decide)
  have a₂ := hline.below (launchContents m c) (r := main_arg2) (by decide)
  refine ⟨?_, (h c main_arg0).trans a₀, (h c main_arg1).trans a₁, (h c main_arg2).trans a₂⟩
  rw [h c main_v30]
  have hv : Result (after ops (launchContents m c) (Proc.devRef .tc main_arg0)) (after ops (launchContents m c) (Proc.devRef .tc main_arg1))
    (after ops (launchContents m c) (Proc.devRef .tc main_arg2)) (after ops (launchContents m c) (Proc.devRef .tc main_v30)) :=
    hval _ (hline.fixed (launchContents m c))
  rw [a₀, a₁, a₂] at hv
  exact hv

/-- The reference runs, leaves its arguments as they were, and ends with every semaphore at zero. -/
theorem frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0 :=
  θ_run_mono (run m ρ) fun r h => ⟨fun c => (h c).2, sem_eq_zero_of_no_sems (by decide) r.2⟩

end Cert.ReferenceIdeal.Value
-- ==== Proof.Equation.lean ====
/-
  The two results are one array. Where every id is a row of the table, the reference's result is the input times the masks of the
  examples' ids, and so is the kernel's, whose rows of 1024 features are read back as 16 channels of 8 by 8.
-/
module

public import proofs.«01_k».proof.Defs
public import proofs.«01_k».proof.Proof.KernelArray
public import proofs.«01_k».proof.Proof.RefRun

@[expose] public section

noncomputable section

namespace Cert.Equation

open Idealize.ShloMosaic Idealize.ShloMosaic.ValueIdx Cert.Words
open Cert.KernelIdeal (S4096x16x8x8 S4096x1024 S4096)

/-- A word that compares as at least 0 and below 60000 is so, read signed. -/
theorem in_table_word {x : BitVec 32} (h : IntOp.andi (IntOp.cmpi .sge x 0#32) (IntOp.cmpi .slt x 60000#32) = 1#1) :
    0 ≤ x.toInt ∧ x.toInt < 60000 := by
  have h : BitVec.ofBool ((0#32).sle x) &&& BitVec.ofBool (x.slt 60000#32) = 1#1 := h
  have ha : (0#32).sle x = true := by
    by_contra hn
    rw [Bool.not_eq_true] at hn
    rw [hn] at h
    revert h
    cases x.slt 60000#32 <;> decide
  have hb : x.slt 60000#32 = true := by
    by_contra hn
    rw [Bool.not_eq_true] at hn
    rw [hn] at h
    revert h
    cases (0#32).sle x <;> decide
  rw [BitVec.sle_eq_decide, decide_eq_true_eq] at ha
  rw [BitVec.slt_eq_decide, decide_eq_true_eq] at hb
  exact ⟨ha, hb⟩

/-- The precondition says that every id is a row of the table. -/
theorem in_table [Cert.Pre_ids_in_table.Facts] {X : FVec Ideal S4096x16x8x8 .f32} {ids : IVec S4096 32}
    {table : FVec Ideal Cert.ReferenceIdeal.S60000x16x8x8 .f32}
    (h : Cert.Pre_ids_in_table.fn (F := Ideal) X ids table = fun _ => 1#1) : Cert.ReferenceIdeal.Value.InTable ids := fun n =>
  in_table_word (congrFun h (ValueIdx.ix1 n))

/-- The kernel's result, read at channel, row and column, is the reference's. -/
theorem result_eq {X : FVec Ideal S4096x16x8x8 .f32} {ids : IVec S4096 32}
    {table : FVec Ideal Cert.ReferenceIdeal.S60000x16x8x8 .f32} {out : FVec Ideal S4096x16x8x8 .f32}
    (hids : Cert.ReferenceIdeal.Value.InTable ids) (hout : Cert.ReferenceIdeal.Value.Result X ids table out) (h : S4096x1024.ShapeCasts S4096x16x8x8) :
    out = shapeCast S4096x16x8x8 (Cert.KernelIdeal.Block.whole X ids) h := by
  refine funext fun i => (hout.eq hids i).trans (Eq.symm ?_)
  have h₁ : (i 1).val < 16 := (i 1).isLt
  have h₂ : (i 2).val < 8 := (i 2).isLt
  have h₃ : (i 3).val < 8 := (i 3).isLt
  have hf : Cert.ReferenceIdeal.Value.feature i < 1024 := by
    unfold Cert.ReferenceIdeal.Value.feature
    omega
  have e : (S4096x1024.rowMajor (ValueIdx.ix2 (i 0) ⟨_, hf⟩)).val = (S4096x16x8x8.rowMajor i).val := by
    refine (Shape.rowMajor_val_two _).trans (Eq.trans ?_ (Shape.rowMajor_val_four _).symm)
    show (i 0).val * 1024 + (64 * (i 1).val + 8 * (i 2).val + (i 3).val) = (((i 0).val * 16 + (i 1).val) * 8 + (i 2).val) * 8 + (i 3).val
    omega
  refine (shapeCast_apply _ _ i _ e).trans ?_
  unfold Cert.KernelIdeal.Block.whole
  exact congrArg (fun x : EReal => x * Cert.ReferenceIdeal.Value.mask ids i) (shapeCast_apply X _ _ i e.symm)

end Cert.Equation
-- ==== Proof.lean ====
/-
  The proof of `Cert.Claim`: the kernel as written and at the extended reals, and the reference, run, leave their arguments as they
  were and end with every semaphore at zero; and where every id is a row of the table, the kernel and the reference end with equal
  results.
-/
module

public import proofs.«01_k».proof.Defs
public import proofs.«01_k».proof.Proof.Gen.Kernel.Frame
public import proofs.«01_k».proof.Proof.Gen.KernelIdeal.Frame
public import proofs.«01_k».proof.Proof.Equation

@[expose] public section

noncomputable section

namespace Cert.Proof

open Idealize.ShloMosaic Idealize.SL.Sem

/-- What the precondition's function states of its shapes. -/
theorem preFacts : Cert.Pre_ids_in_table.Facts := ⟨by decide⟩

/-- From equal arguments whose ids are all rows of the table, the kernel and the reference end with equal results. -/
theorem algebraic : algebraic_KernelIdeal_ReferenceIdeal_pre_ids_in_table (hKernelIdeal := Cert.KernelIdeal.Gen.facts)
    (hReferenceIdeal := Cert.ReferenceIdeal.Gen.facts) (hPre_ids_in_table := preFacts) := by
  intro m g m' g' hpre hargs
  refine ⟨_, Cert.KernelIdeal.Value.run m g, θ_run_mono (Cert.ReferenceIdeal.Value.run m' g') fun r h c => ⟨?_, (h c).2⟩⟩
  obtain ⟨a₀, a₁, a₂⟩ := hargs c
  have hr := (h c).1
  rw [a₀, a₁, a₂] at hr
  rw [Cert.KernelIdeal.Block.region_eq m c]
  exact Cert.Equation.result_eq (@Cert.Equation.in_table preFacts _ _ _ (hpre c)) hr _

/-- All the claims together: the three frames, the kernel over the extended reals being the kernel, and the equal results. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => Cert.ReferenceIdeal.Value.frame m g, fun m g _ => Cert.ReferenceIdeal.Value.frame m g, trivial, algebraic⟩

end Cert.Proof

end
